-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S2048 : Shape := ⟨1, ![2048]⟩
abbrev S1 : Shape := ⟨1, ![1]⟩
abbrev S200x10 : Shape := ⟨2, ![200, 10]⟩
abbrev S200 : Shape := ⟨1, ![200]⟩
abbrev S100x200 : Shape := ⟨2, ![100, 200]⟩
abbrev S100 : Shape := ⟨1, ![100]⟩
abbrev S1x100 : Shape := ⟨2, ![1, 100]⟩
abbrev S2048x1 : Shape := ⟨2, ![2048, 1]⟩
abbrev S1x1 : Shape := ⟨2, ![1, 1]⟩
abbrev S_ : Shape := ⟨0, ![]⟩
abbrev S128x256 : Shape := ⟨2, ![128, 256]⟩
abbrev S10x200 : Shape := ⟨2, ![10, 200]⟩
abbrev S2 : Shape := ⟨1, ![2]⟩
abbrev S1x256 : Shape := ⟨2, ![1, 256]⟩
abbrev S256x128 : Shape := ⟨2, ![256, 128]⟩
abbrev S200x100 : Shape := ⟨2, ![200, 100]⟩
abbrev S1x128 : Shape := ⟨2, ![1, 128]⟩
abbrev S128x128 : Shape := ⟨2, ![128, 128]⟩
abbrev S100x1 : Shape := ⟨2, ![100, 1]⟩
abbrev S8x128 : Shape := ⟨2, ![8, 128]⟩
abbrev S1x512x2048 : Shape := ⟨3, ![1, 512, 2048]⟩
abbrev S512x1 : Shape := ⟨2, ![512, 1]⟩
abbrev S1x4096 : Shape := ⟨2, ![1, 4096]⟩
abbrev S512x2048 : Shape := ⟨2, ![512, 2048]⟩
abbrev S1x2048 : Shape := ⟨2, ![1, 2048]⟩
abbrev S1x1x4096 : Shape := ⟨3, ![1, 1, 4096]⟩
abbrev S1x1x1 : Shape := ⟨3, ![1, 1, 1]⟩
abbrev S8x256 : Shape := ⟨2, ![8, 256]⟩
abbrev S8x1 : Shape := ⟨2, ![8, 1]⟩
abbrev S8 : Shape := ⟨1, ![8]⟩

abbrev nBuf : Space → Nat
  | .hbm => 65
  | .vmem => 16
  | .smem => 0
  | _ => 0

abbrev bufTy : (tb : Table) → Fin (tcTables nBuf tb) → BufTy
  | .hbm, ⟨0, _⟩ => ⟨S8x2048x4096, .f32⟩
  | .hbm, ⟨1, _⟩ => ⟨S2048, .f32⟩
  | .hbm, ⟨2, _⟩ => ⟨S1, .f32⟩
  | .hbm, ⟨3, _⟩ => ⟨S200x10, .f32⟩
  | .hbm, ⟨4, _⟩ => ⟨S200, .f32⟩
  | .hbm, ⟨5, _⟩ => ⟨S100x200, .f32⟩
  | .hbm, ⟨6, _⟩ => ⟨S100, .f32⟩
  | .hbm, ⟨7, _⟩ => ⟨S1x100, .f32⟩
  | .hbm, ⟨8, _⟩ => ⟨S1, .f32⟩
  | .hbm, ⟨9, _⟩ => ⟨S2048x1, .f32⟩
  | .hbm, ⟨10, _⟩ => ⟨S1x1, .f32⟩
  | .hbm, ⟨11, _⟩ => ⟨S_, .f32⟩
  | .hbm, ⟨12, _⟩ => ⟨S128x256, .f32⟩
  | .hbm, ⟨13, _⟩ => ⟨S10x200, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x256, .f32⟩
  | .hbm, ⟨20, _⟩ => ⟨S_, .f32⟩
  | .hbm, ⟨21, _⟩ => ⟨S1x256, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x256, .f32⟩
  | .hbm, ⟨28, _⟩ => ⟨S_, .f32⟩
  | .hbm, ⟨29, _⟩ => ⟨S256x128, .f32⟩
  | .hbm, ⟨30, _⟩ => ⟨S200x100, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S256x128, .f32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S_, .f32⟩
  | .hbm, ⟨46, _⟩ => ⟨S128x128, .f32⟩
  | .hbm, ⟨47, _⟩ => ⟨S100x1, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S128x128, .f32⟩
  | .hbm, ⟨54, _⟩ => ⟨S_, .f32⟩
  | .hbm, ⟨55, _⟩ => ⟨S1x128, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S1x128, .f32⟩
  | .hbm, ⟨62, _⟩ => ⟨S8x128, .f32⟩
  | .hbm, ⟨63, _⟩ => ⟨S8x1, .f32⟩
  | .hbm, ⟨64, _⟩ => ⟨S8, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S512x1, .f32⟩
  | .local _ .vmem, ⟨5, _⟩ => ⟨S512x1, .f32⟩
  | .local _ .vmem, ⟨6, _⟩ => ⟨S1x1, .f32⟩
  | .local _ .vmem, ⟨7, _⟩ => ⟨S128x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S8x128, .f32⟩
  | .local _ .vmem, ⟨14, _⟩ => ⟨S1x4096, .f32⟩
  | .local _ .vmem, ⟨15, _⟩ => ⟨S8x128, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_c_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_c_8 : Ref sig .tc := ⟨.hbm, 39, rfl⟩
abbrev main_v20 : Ref sig .tc := ⟨.hbm, 40, rfl⟩
abbrev main_c_9 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_10 : Ref sig .tc := ⟨.hbm, 45, rfl⟩
abbrev main_v24 : Ref sig .tc := ⟨.hbm, 46, rfl⟩
abbrev main_v25 : Ref sig .tc := ⟨.hbm, 47, rfl⟩
abbrev main_c_11 : Ref sig .tc := ⟨.hbm, 48, rfl⟩
abbrev main_v26 : Ref sig .tc := ⟨.hbm, 49, rfl⟩
abbrev main_c_12 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_13 : Ref sig .tc := ⟨.hbm, 54, rfl⟩
abbrev main_v30 : Ref sig .tc := ⟨.hbm, 55, rfl⟩
abbrev main_c_14 : Ref sig .tc := ⟨.hbm, 56, rfl⟩
abbrev main_v31 : Ref sig .tc := ⟨.hbm, 57, rfl⟩
abbrev main_c_15 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_11 : BitVec 32 := 0#32
  let v23 : BitVec 1 := Scalar.cmpi .ne v22 c0_i32_11
  v23

def k0_off1 (i : grid0.Coords) : Fin 2 → Nat :=
  let arg0 : BitVec 32 := BitVec.ofNat 32 (i 0).val
  let v213 : Index := Scalar.indexCast arg0
  let c0_55 : Index := 0#32
  ![v213.toNat, 0]
def k0_cond4 (i : grid0.Coords) : BitVec 1 :=
  let arg0 : BitVec 32 := BitVec.ofNat 32 (i 0).val
  let c7_i32 : BitVec 32 := 7#32
  let v24 : BitVec 1 := Scalar.cmpi .eq arg0 c7_i32
  let arg1 : BitVec 32 := BitVec.ofNat 32 (i 1).val
  let c3_i32_12 : BitVec 32 := 3#32
  let v25 : BitVec 1 := Scalar.cmpi .eq arg1 c3_i32_12
  let v26 : BitVec 1 := Scalar.andi v24 v25
  let v27 : BitVec 32 := Scalar.extui v26
  let c0_i32_13 : BitVec 32 := 0#32
  let v28 : BitVec 1 := Scalar.cmpi .ne v27 c0_i32_13
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S8x2048x4096 : Shape := ⟨3, ![8, 2048, 4096]⟩
abbrev S2048 : Shape := ⟨1, ![2048]⟩
abbrev S1 : Shape := ⟨1, ![1]⟩
abbrev S200x10 : Shape := ⟨2, ![200, 10]⟩
abbrev S200 : Shape := ⟨1, ![200]⟩
abbrev S100x200 : Shape := ⟨2, ![100, 200]⟩
abbrev S100 : Shape := ⟨1, ![100]⟩
abbrev S1x100 : Shape := ⟨2, ![1, 100]⟩
abbrev S8x4096 : Shape := ⟨2, ![8, 4096]⟩
abbrev S1x1 : Shape := ⟨2, ![1, 1]⟩
abbrev S8x5 : Shape := ⟨2, ![8, 5]⟩
abbrev S8x10 : Shape := ⟨2, ![8, 10]⟩
abbrev S10x200 : Shape := ⟨2, ![10, 200]⟩
abbrev S8x200 : Shape := ⟨2, ![8, 200]⟩
abbrev S1x200 : Shape := ⟨2, ![1, 200]⟩
abbrev S_ : Shape := ⟨0, ![]⟩
abbrev S200x100 : Shape := ⟨2, ![200, 100]⟩
abbrev S8x100 : Shape := ⟨2, ![8, 100]⟩
abbrev S100x1 : Shape := ⟨2, ![100, 1]⟩
abbrev S8x1 : Shape := ⟨2, ![8, 1]⟩
abbrev S8 : Shape := ⟨1, ![8]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2048, .f32⟩
  | .hbm, ⟨2, _⟩ => ⟨S1, .f32⟩
  | .hbm, ⟨3, _⟩ => ⟨S200x10, .f32⟩
  | .hbm, ⟨4, _⟩ => ⟨S200, .f32⟩
  | .hbm, ⟨5, _⟩ => ⟨S100x200, .f32⟩
  | .hbm, ⟨6, _⟩ => ⟨S100, .f32⟩
  | .hbm, ⟨7, _⟩ => ⟨S1x100, .f32⟩
  | .hbm, ⟨8, _⟩ => ⟨S1, .f32⟩
  | .hbm, ⟨9, _⟩ => ⟨S8x4096, .f32⟩
  | .hbm, ⟨10, _⟩ => ⟨S1x1, .f32⟩
  | .hbm, ⟨11, _⟩ => ⟨S8x4096, .f32⟩
  | .hbm, ⟨12, _⟩ => ⟨S8x4096, .f32⟩
  | .hbm, ⟨13, _⟩ => ⟨S8x5, .f32⟩
  | .hbm, ⟨14, _⟩ => ⟨S8x5, .i32⟩
  | .hbm, ⟨15, _⟩ => ⟨S8x4096, .f32⟩
  | .hbm, ⟨16, _⟩ => ⟨S8x5, .f32⟩
  | .hbm, ⟨17, _⟩ => ⟨S8x5, .i32⟩
  | .hbm, ⟨18, _⟩ => ⟨S8x5, .f32⟩
  | .hbm, ⟨19, _⟩ => ⟨S8x10, .f32⟩
  | .hbm, ⟨20, _⟩ => ⟨S10x200, .f32⟩
  | .hbm, ⟨21, _⟩ => ⟨S8x200, .f32⟩
  | .hbm, ⟨22, _⟩ => ⟨S1x200, .f32⟩
  | .hbm, ⟨23, _⟩ => ⟨S8x200, .f32⟩
  | .hbm, ⟨24, _⟩ => ⟨S8x200, .f32⟩
  | .hbm, ⟨25, _⟩ => ⟨S_, .f32⟩
  | .hbm, ⟨26, _⟩ => ⟨S8x200, .f32⟩
  | .hbm, ⟨27, _⟩ => ⟨S8x200, .f32⟩
  | .hbm, ⟨28, _⟩ => ⟨S200x100, .f32⟩
  | .hbm, ⟨29, _⟩ => ⟨S8x100, .f32⟩
  | .hbm, ⟨30, _⟩ => ⟨S1x100, .f32⟩
  | .hbm, ⟨31, _⟩ => ⟨S8x100, .f32⟩
  | .hbm, ⟨32, _⟩ => ⟨S8x100, .f32⟩
  | .hbm, ⟨33, _⟩ => ⟨S_, .f32⟩
  | .hbm, ⟨34, _⟩ => ⟨S8x100, .f32⟩
  | .hbm, ⟨35, _⟩ => ⟨S8x100, .f32⟩
  | .hbm, ⟨36, _⟩ => ⟨S100x1, .f32⟩
  | .hbm, ⟨37, _⟩ => ⟨S8x1, .f32⟩
  | .hbm, ⟨38, _⟩ => ⟨S1x1, .f32⟩
  | .hbm, ⟨39, _⟩ => ⟨S8x1, .f32⟩
  | .hbm, ⟨40, _⟩ => ⟨S8x1, .f32⟩
  | .hbm, ⟨41, _⟩ => ⟨S8x1, .f32⟩
  | .hbm, ⟨42, _⟩ => ⟨S8x1, .f32⟩
  | .hbm, ⟨43, _⟩ => ⟨S_, .f32⟩
  | .hbm, ⟨44, _⟩ => ⟨S8x1, .f32⟩
  | .hbm, ⟨45, _⟩ => ⟨S8x1, .f32⟩
  | .hbm, ⟨46, _⟩ => ⟨S_, .f32⟩
  | .hbm, ⟨47, _⟩ => ⟨S8x1, .f32⟩
  | .hbm, ⟨48, _⟩ => ⟨S8x1, .f32⟩
  | .hbm, ⟨49, _⟩ => ⟨S8, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_values : Ref sig .tc := ⟨.hbm, 13, rfl⟩
abbrev main_indices : Ref sig .tc := ⟨.hbm, 14, rfl⟩
abbrev main_v4 : Ref sig .tc := ⟨.hbm, 15, rfl⟩
abbrev main_values_0 : Ref sig .tc := ⟨.hbm, 16, rfl⟩
abbrev main_indices_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Body.lean ====
/-
  What one grid point of the fused kernel does to its buffers, case by case. A grid point `t` is a pair (image `t / 4`, channel
  block `t % 4`). The body's four `pl.when` conditions give four cases:

    A  first channel block of an image: the running channel sum is set to the block's partial sum;
    B  an inner channel block: the partial sum is added to the running channel sum;
    C  the last channel block of an image that is not the last image: as B, and the image's ten extreme scores go to the image's
       row of the evidence buffer;
    D  the last point of the grid: as C, and the three-layer perceptron runs on the evidence buffer and fills the output block.

  Each case is a triple of the whole body over symbolic buffers that names exactly what every buffer holds afterwards.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The four conditions, in closed form over the grid points -/

/-- The condition "first channel block". -/
abbrev condFirst (i : grid0.Coords) : Prop := (Scalar.cmpi .ne (Scalar.extui (Scalar.cmpi .eq (BitVec.ofNat 32 (i 1).val) 0#32)) 0#32) = 1#1
/-- The condition "not the first channel block". -/
abbrev condLater (i : grid0.Coords) : Prop := (Scalar.cmpi .ne (Scalar.extui (Scalar.cmpi .ne (BitVec.ofNat 32 (i 1).val) 0#32)) 0#32) = 1#1
/-- The condition "last channel block". -/
abbrev condLast (i : grid0.Coords) : Prop := k0_cond3 i = 1#1
/-- The condition "last channel block of the last image". -/
abbrev condEnd (i : grid0.Coords) : Prop := k0_cond4 i = 1#1

theorem coord0 (t : Fin grid0.N) : (grid0.coords t 0).val = t.val / 4 := by
  have ht : t.val < 32 := Nat.lt_of_lt_of_eq t.isLt N_0
  have e0 : (grid0.coords t 0).val = t.val / 4 % 8 := Pipeline.Grid.coords_val t 0 (by decide) rfl
  omega

theorem coord1 (t : Fin grid0.N) : (grid0.coords t 1).val = t.val % 4 := by
  have e1 : (grid0.coords t 1).val = t.val / 1 % 4 := Pipeline.Grid.coords_val t 1 (by decide) rfl
  omega

theorem condFirst_iff : ∀ t : Fin grid0.N, condFirst (grid0.coords t) ↔ t.val % 4 = 0 := fun t => by
  have ht : t.val < 32 := Nat.lt_of_lt_of_eq t.isLt N_0
  simp only [condFirst, coord1]
  word_cmp

theorem condLater_iff : ∀ t : Fin grid0.N, condLater (grid0.coords t) ↔ t.val % 4 ≠ 0 := fun t => by
  have ht : t.val < 32 := Nat.lt_of_lt_of_eq t.isLt N_0
  simp only [condLater, coord1]
  word_cmp

theorem condLast_iff : ∀ t : Fin grid0.N, condLast (grid0.coords t) ↔ t.val % 4 = 3 := fun t => by
  have ht : t.val < 32 := Nat.lt_of_lt_of_eq t.isLt N_0
  simp only [condLast, k0_cond3, coord1]
  word_cmp

theorem condEnd_iff : ∀ t : Fin grid0.N, condEnd (grid0.coords t) ↔ t.val = 31 := fun t => by
  have ht : t.val < 32 := Nat.lt_of_lt_of_eq t.isLt N_0
  simp only [condEnd, k0_cond4, coord0, coord1]
  word_cmp

/-- The row of the evidence buffer that a grid point's image owns. -/
theorem off_eq (t : Fin grid0.N) : k0_off1 (grid0.coords t) = ![t.val / 4, 0] := by
  have ht : t.val < 32 := Nat.lt_of_lt_of_eq t.isLt N_0
  unfold k0_off1
  rw [coord0]
  funext a
  match a with
  | ⟨0, _⟩ =>
    show (BitVec.ofNat 32 (t.val / 4)).toNat = t.val / 4
    rw [BitVec.toNat_ofNat]; omega
  | ⟨1, _⟩ => rfl

/-! ## The values one point computes -/

/-- The row of ten extreme scores (five greatest, five least, then zeros) that the kernel extracts from an image's channel sums
    `acc` and the convolution's bias `b`. -/
def evRow (acc : Vec F S1x4096 .f32) (b : Vec F S1x1 .f32) : FVec F S1x128 .f32 :=
  have v33 : FVec F S1x4096 .f32 := k0_pay6 acc b
  have v34 : IVec S1x4096 32 := iota .tc S1x4096 32 [1] iota_S1x4096_d1_w32
  have v35 : IVec S1x128 32 := iota .tc S1x128 32 [1] iota_S1x128_d1_w32
  k0_pay4 (k0_pay26 v34 v35 (k0_pay22 v33 v34)
    (k0_pay23 v33 v34 v35 (k0_pay16 v34 v35 (k0_pay9 acc b) (k0_pay10 acc b) (k0_pay11 acc b) k0_pay12)
      (k0_pay17 v34 (k0_pay11 acc b)) k0_pay18)
    (k0_pay24 v33 v34) (k0_pay25 v33 v34))

/-- The evidence buffer `E` with the row of grid point `i` overwritten by `r`. -/
abbrev putRow (i : grid0.Coords) (E : Vec F S8x128 .f32) (r : Vec F S1x128 .f32) : Vec F S8x128 .f32 :=
  VecWindow.put (s := S8x128) E (k0_off1 i) S1x128.size r

end Cert.KernelIdeal.Body

end
-- ==== Proof.RunsInner.lean ====
/-
  The body's triples at the points that write no evidence row: the first and the inner channel blocks of an image.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Body
public import Idealize.ShloMosaic.Lib.Pipeline.FrameBody
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- First channel block of an image: the channel sum becomes the block's partial sum; the evidence and the output stay. -/
theorem runFirst (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S512x1 .f32) (harg4 : arg4.IsWhole) (arg5 : Memref sig .tc .vmem S1x1 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S8x128 .f32) (harg12 : arg12.IsWhole) (arg13 : Memref sig .tc .vmem S1x4096 .f32) (harg13 : arg13.IsWhole) (arg14 : Memref sig .tc .vmem S8x128 .f32) (harg14 : arg14.IsWhole)
    (hc0 : condFirst i) (hc1 : ¬condLater i) (hc2 : ¬condLast i) (hc3 : ¬condEnd i)
    (x0 : Vec F S1x512x2048 .f32) (x1 : Vec F S1x512x2048 .f32) (x2 : Vec F S512x1 .f32) (x3 : Vec F S1x1 .f32) (x4 : Vec F S128x256 .f32) (x5 : Vec F S1x256 .f32) (x6 : Vec F S256x128 .f32) (x7 : Vec F S1x128 .f32) (x8 : Vec F S128x128 .f32) (x9 : Vec F S1x128 .f32) (xo ev : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ (∃ d, owns (c : Thread nD τ) arg13 fullShare d) ∗ owns (c : Thread nD τ) arg14 fullShare ev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare (k0_pay2 x2 x0 x1) ∗ owns (c : Thread nD τ) arg14 fullShare ev) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14) K := by
  simp only [cc0__fused_body_eq_skeleton]; unfold cc0__fused_body_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs1
  have r2 : ∀ inb, arg2.view.readAt (Elt F) (Rect.unit (s := S1x512x2048) ![0, 0, 0] ![1, 512, 2048] inb).toLoadRect (harg2.unread x0) = x0 := fun inb => (View.readAt_full arg2.view _ inb).trans (harg2.read_unread x0)
  have q2 : ∀ inb, arg2.view.readAt (Elt F) (Rect.unit (s := S1x512x2048) ![0, 0, 0] S1x512x2048.size inb).toLoadRect (harg2.unread x0) = x0 := fun inb => (View.readAt_full arg2.view _ inb).trans (harg2.read_unread x0)
  have r3 : ∀ inb, arg3.view.readAt (Elt F) (Rect.unit (s := S1x512x2048) ![0, 0, 0] ![1, 512, 2048] inb).toLoadRect (harg3.unread x1) = x1 := fun inb => (View.readAt_full arg3.view _ inb).trans (harg3.read_unread x1)
  have q3 : ∀ inb, arg3.view.readAt (Elt F) (Rect.unit (s := S1x512x2048) ![0, 0, 0] S1x512x2048.size inb).toLoadRect (harg3.unread x1) = x1 := fun inb => (View.readAt_full arg3.view _ inb).trans (harg3.read_unread x1)
  have r4 : ∀ inb, arg4.view.readAt (Elt F) (Rect.unit (s := S512x1) ![0, 0] ![512, 1] inb).toLoadRect (harg4.unread x2) = x2 := fun inb => (View.readAt_full arg4.view _ inb).trans (harg4.read_unread x2)
  have q4 : ∀ inb, arg4.view.readAt (Elt F) (Rect.unit (s := S512x1) ![0, 0] S512x1.size inb).toLoadRect (harg4.unread x2) = x2 := fun inb => (View.readAt_full arg4.view _ inb).trans (harg4.read_unread x2)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; swap; · iexact HS0
    ipureintro
    (try sl_unfold_words)
    refine (View.read_writes_full _ _ _ _ _).trans ?_
    simp only [r2, q2, r3, q3, r4, q4]
  iexists _; isplitr; · ipureintro; exact harg14.read_unread _
  iexact HS1

set_option maxHeartbeats 4000000 in
/-- An inner channel block: the partial sum is added to the channel sum; the evidence and the output stay. -/
theorem runInner (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S512x1 .f32) (harg4 : arg4.IsWhole) (arg5 : Memref sig .tc .vmem S1x1 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S8x128 .f32) (harg12 : arg12.IsWhole) (arg13 : Memref sig .tc .vmem S1x4096 .f32) (harg13 : arg13.IsWhole) (arg14 : Memref sig .tc .vmem S8x128 .f32) (harg14 : arg14.IsWhole)
    (hc0 : ¬condFirst i) (hc1 : condLater i) (hc2 : ¬condLast i) (hc3 : ¬condEnd i)
    (x0 : Vec F S1x512x2048 .f32) (x1 : Vec F S1x512x2048 .f32) (x2 : Vec F S512x1 .f32) (x3 : Vec F S1x1 .f32) (x4 : Vec F S128x256 .f32) (x5 : Vec F S1x256 .f32) (x6 : Vec F S256x128 .f32) (x7 : Vec F S1x128 .f32) (x8 : Vec F S128x128 .f32) (x9 : Vec F S1x128 .f32) (xo ev : Vec F S8x128 .f32) (xs : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare xs ∗ owns (c : Thread nD τ) arg14 fullShare ev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare (k0_pay3 x2 x0 x1 xs) ∗ owns (c : Thread nD τ) arg14 fullShare ev) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14) K := by
  simp only [cc0__fused_body_eq_skeleton]; unfold cc0__fused_body_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
  have r2 : ∀ inb, arg2.view.readAt (Elt F) (Rect.unit (s := S1x512x2048) ![0, 0, 0] ![1, 512, 2048] inb).toLoadRect (harg2.unread x0) = x0 := fun inb => (View.readAt_full arg2.view _ inb).trans (harg2.read_unread x0)
  have q2 : ∀ inb, arg2.view.readAt (Elt F) (Rect.unit (s := S1x512x2048) ![0, 0, 0] S1x512x2048.size inb).toLoadRect (harg2.unread x0) = x0 := fun inb => (View.readAt_full arg2.view _ inb).trans (harg2.read_unread x0)
  have r3 : ∀ inb, arg3.view.readAt (Elt F) (Rect.unit (s := S1x512x2048) ![0, 0, 0] ![1, 512, 2048] inb).toLoadRect (harg3.unread x1) = x1 := fun inb => (View.readAt_full arg3.view _ inb).trans (harg3.read_unread x1)
  have q3 : ∀ inb, arg3.view.readAt (Elt F) (Rect.unit (s := S1x512x2048) ![0, 0, 0] S1x512x2048.size inb).toLoadRect (harg3.unread x1) = x1 := fun inb => (View.readAt_full arg3.view _ inb).trans (harg3.read_unread x1)
  have r4 : ∀ inb, arg4.view.readAt (Elt F) (Rect.unit (s := S512x1) ![0, 0] ![512, 1] inb).toLoadRect (harg4.unread x2) = x2 := fun inb => (View.readAt_full arg4.view _ inb).trans (harg4.read_unread x2)
  have q4 : ∀ inb, arg4.view.readAt (Elt F) (Rect.unit (s := S512x1) ![0, 0] S512x1.size inb).toLoadRect (harg4.unread x2) = x2 := fun inb => (View.readAt_full arg4.view _ inb).trans (harg4.read_unread x2)
  have r13 : ∀ inb, arg13.view.readAt (Elt F) (Rect.unit (s := S1x4096) ![0, 0] ![1, 4096] inb).toLoadRect (harg13.unread xs) = xs := fun inb => (View.readAt_full arg13.view _ inb).trans (harg13.read_unread xs)
  have q13 : ∀ inb, arg13.view.readAt (Elt F) (Rect.unit (s := S1x4096) ![0, 0] S1x4096.size inb).toLoadRect (harg13.unread xs) = xs := fun inb => (View.readAt_full arg13.view _ inb).trans (harg13.read_unread xs)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; swap; · iexact HS0
    ipureintro
    (try sl_unfold_words)
    refine (View.read_writes_full _ _ _ _ _).trans ?_
    simp only [r2, q2, r3, q3, r4, q4, r13, q13]
  iexists _; isplitr; · ipureintro; exact harg14.read_unread _
  iexact HS1

end Cert.KernelIdeal.Body

end
-- ==== Proof.RunLast.lean ====
/-
  The body's triple at an image's last channel block, for every image but the last.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Body
public import Idealize.ShloMosaic.Lib.Pipeline.FrameBody
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The last channel block of an image: as an inner block, and the image's evidence row is written. -/
theorem runLast (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S512x1 .f32) (harg4 : arg4.IsWhole) (arg5 : Memref sig .tc .vmem S1x1 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S8x128 .f32) (harg12 : arg12.IsWhole) (arg13 : Memref sig .tc .vmem S1x4096 .f32) (harg13 : arg13.IsWhole) (arg14 : Memref sig .tc .vmem S8x128 .f32) (harg14 : arg14.IsWhole)
    (hc0 : ¬condFirst i) (hc1 : condLater i) (hc2 : condLast i) (hc3 : ¬condEnd i)
    (x0 : Vec F S1x512x2048 .f32) (x1 : Vec F S1x512x2048 .f32) (x2 : Vec F S512x1 .f32) (x3 : Vec F S1x1 .f32) (x4 : Vec F S128x256 .f32) (x5 : Vec F S1x256 .f32) (x6 : Vec F S256x128 .f32) (x7 : Vec F S1x128 .f32) (x8 : Vec F S128x128 .f32) (x9 : Vec F S1x128 .f32) (xo ev : Vec F S8x128 .f32) (xs : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare xs ∗ owns (c : Thread nD τ) arg14 fullShare ev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare (k0_pay3 x2 x0 x1 xs) ∗ owns (c : Thread nD τ) arg14 fullShare (putRow i ev (evRow (k0_pay3 x2 x0 x1 xs) x3))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14) K := by
  simp only [cc0__fused_body_eq_skeleton]; unfold cc0__fused_body_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
  have r2 : ∀ inb, arg2.view.readAt (Elt F) (Rect.unit (s := S1x512x2048) ![0, 0, 0] ![1, 512, 2048] inb).toLoadRect (harg2.unread x0) = x0 := fun inb => (View.readAt_full arg2.view _ inb).trans (harg2.read_unread x0)
  have q2 : ∀ inb, arg2.view.readAt (Elt F) (Rect.unit (s := S1x512x2048) ![0, 0, 0] S1x512x2048.size inb).toLoadRect (harg2.unread x0) = x0 := fun inb => (View.readAt_full arg2.view _ inb).trans (harg2.read_unread x0)
  have r3 : ∀ inb, arg3.view.readAt (Elt F) (Rect.unit (s := S1x512x2048) ![0, 0, 0] ![1, 512, 2048] inb).toLoadRect (harg3.unread x1) = x1 := fun inb => (View.readAt_full arg3.view _ inb).trans (harg3.read_unread x1)
  have q3 : ∀ inb, arg3.view.readAt (Elt F) (Rect.unit (s := S1x512x2048) ![0, 0, 0] S1x512x2048.size inb).toLoadRect (harg3.unread x1) = x1 := fun inb => (View.readAt_full arg3.view _ inb).trans (harg3.read_unread x1)
  have r4 : ∀ inb, arg4.view.readAt (Elt F) (Rect.unit (s := S512x1) ![0, 0] ![512, 1] inb).toLoadRect (harg4.unread x2) = x2 := fun inb => (View.readAt_full arg4.view _ inb).trans (harg4.read_unread x2)
  have q4 : ∀ inb, arg4.view.readAt (Elt F) (Rect.unit (s := S512x1) ![0, 0] S512x1.size inb).toLoadRect (harg4.unread x2) = x2 := fun inb => (View.readAt_full arg4.view _ inb).trans (harg4.read_unread x2)
  have r5 : ∀ inb, arg5.view.readAt (Elt F) (Rect.unit (s := S1x1) ![0, 0] ![1, 1] inb).toLoadRect (harg5.unread x3) = x3 := fun inb => (View.readAt_full arg5.view _ inb).trans (harg5.read_unread x3)
  have q5 : ∀ inb, arg5.view.readAt (Elt F) (Rect.unit (s := S1x1) ![0, 0] S1x1.size inb).toLoadRect (harg5.unread x3) = x3 := fun inb => (View.readAt_full arg5.view _ inb).trans (harg5.read_unread x3)
  have r13 : ∀ inb, arg13.view.readAt (Elt F) (Rect.unit (s := S1x4096) ![0, 0] ![1, 4096] inb).toLoadRect (harg13.unread xs) = xs := fun inb => (View.readAt_full arg13.view _ inb).trans (harg13.read_unread xs)
  have q13 : ∀ inb, arg13.view.readAt (Elt F) (Rect.unit (s := S1x4096) ![0, 0] S1x4096.size inb).toLoadRect (harg13.unread xs) = xs := fun inb => (View.readAt_full arg13.view _ inb).trans (harg13.read_unread xs)
  have cov : ∀ inb inb' (w : Vec F S1x4096 .f32), arg13.view.readCov (Val := Elt F) (e := .f32) [⟨Rect.unit (s := S1x4096) ![0, 0] ![1, 4096] inb', w⟩] (Rect.unit (s := S1x4096) ![0, 0] S1x4096.size inb).toLoadRect = w := fun inb inb' w => View.readCov_full arg13.view inb inb' w []
  have cov' : ∀ inb inb' (w : Vec F S1x4096 .f32), arg13.view.readCov (Val := Elt F) (e := .f32) [⟨Rect.unit (s := S1x4096) ![0, 0] ![1, 4096] inb', w⟩] (Rect.unit (s := S1x4096) ![0, 0] ![1, 4096] inb).toLoadRect = w := fun inb inb' w => View.readCov_full arg13.view inb inb' w []
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; swap; · iexact HS0
    ipureintro
    (try sl_unfold_words)
    refine (View.read_writes_full _ _ _ _ _).trans ?_
    simp only [r2, q2, r3, q3, r4, q4, r5, q5, r13, q13, cov, cov']
  iexists _; isplitr; swap; · iexact HS1
  ipureintro
  (try sl_unfold_words)
  refine (View.read_writes_cons_put _ _ _ _ _ rfl).trans ?_
  rw [View.writes_nil, harg14.read_unread]
  refine congrArg (VecWindow.put (s := S8x128) ev (k0_off1 i) S1x128.size) ?_
  simp only [r2, q2, r3, q3, r4, q4, r5, q5, r13, q13, cov, cov']
  rfl

end Cert.KernelIdeal.Body

end
-- ==== Proof.RunEnd.lean ====
/-
  The body's triple at the last grid point, where the perceptron runs.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Body
public import Idealize.ShloMosaic.Lib.Pipeline.FrameBody
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The last grid point: as the last channel block of an image, and the perceptron's output fills the output block. -/
theorem runEnd (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S512x1 .f32) (harg4 : arg4.IsWhole) (arg5 : Memref sig .tc .vmem S1x1 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S8x128 .f32) (harg12 : arg12.IsWhole) (arg13 : Memref sig .tc .vmem S1x4096 .f32) (harg13 : arg13.IsWhole) (arg14 : Memref sig .tc .vmem S8x128 .f32) (harg14 : arg14.IsWhole)
    (hc0 : ¬condFirst i) (hc1 : condLater i) (hc2 : condLast i) (hc3 : condEnd i)
    (x0 : Vec F S1x512x2048 .f32) (x1 : Vec F S1x512x2048 .f32) (x2 : Vec F S512x1 .f32) (x3 : Vec F S1x1 .f32) (x4 : Vec F S128x256 .f32) (x5 : Vec F S1x256 .f32) (x6 : Vec F S256x128 .f32) (x7 : Vec F S1x128 .f32) (x8 : Vec F S128x128 .f32) (x9 : Vec F S1x128 .f32) (xo ev : Vec F S8x128 .f32) (xs : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare xs ∗ owns (c : Thread nD τ) arg14 fullShare ev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (k0_pay5 (putRow i ev (evRow (k0_pay3 x2 x0 x1 xs) x3)) x4 x5 x6 x7 x8 x9) ∗ owns (c : Thread nD τ) arg13 fullShare (k0_pay3 x2 x0 x1 xs) ∗ owns (c : Thread nD τ) arg14 fullShare (putRow i ev (evRow (k0_pay3 x2 x0 x1 xs) x3))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14) K := by
  simp only [cc0__fused_body_eq_skeleton]; unfold cc0__fused_body_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
  have r2 : ∀ inb, arg2.view.readAt (Elt F) (Rect.unit (s := S1x512x2048) ![0, 0, 0] ![1, 512, 2048] inb).toLoadRect (harg2.unread x0) = x0 := fun inb => (View.readAt_full arg2.view _ inb).trans (harg2.read_unread x0)
  have q2 : ∀ inb, arg2.view.readAt (Elt F) (Rect.unit (s := S1x512x2048) ![0, 0, 0] S1x512x2048.size inb).toLoadRect (harg2.unread x0) = x0 := fun inb => (View.readAt_full arg2.view _ inb).trans (harg2.read_unread x0)
  have r3 : ∀ inb, arg3.view.readAt (Elt F) (Rect.unit (s := S1x512x2048) ![0, 0, 0] ![1, 512, 2048] inb).toLoadRect (harg3.unread x1) = x1 := fun inb => (View.readAt_full arg3.view _ inb).trans (harg3.read_unread x1)
  have q3 : ∀ inb, arg3.view.readAt (Elt F) (Rect.unit (s := S1x512x2048) ![0, 0, 0] S1x512x2048.size inb).toLoadRect (harg3.unread x1) = x1 := fun inb => (View.readAt_full arg3.view _ inb).trans (harg3.read_unread x1)
  have r4 : ∀ inb, arg4.view.readAt (Elt F) (Rect.unit (s := S512x1) ![0, 0] ![512, 1] inb).toLoadRect (harg4.unread x2) = x2 := fun inb => (View.readAt_full arg4.view _ inb).trans (harg4.read_unread x2)
  have q4 : ∀ inb, arg4.view.readAt (Elt F) (Rect.unit (s := S512x1) ![0, 0] S512x1.size inb).toLoadRect (harg4.unread x2) = x2 := fun inb => (View.readAt_full arg4.view _ inb).trans (harg4.read_unread x2)
  have r5 : ∀ inb, arg5.view.readAt (Elt F) (Rect.unit (s := S1x1) ![0, 0] ![1, 1] inb).toLoadRect (harg5.unread x3) = x3 := fun inb => (View.readAt_full arg5.view _ inb).trans (harg5.read_unread x3)
  have q5 : ∀ inb, arg5.view.readAt (Elt F) (Rect.unit (s := S1x1) ![0, 0] S1x1.size inb).toLoadRect (harg5.unread x3) = x3 := fun inb => (View.readAt_full arg5.view _ inb).trans (harg5.read_unread x3)
  have r6 : ∀ inb, arg6.view.readAt (Elt F) (Rect.unit (s := S128x256) ![0, 0] ![128, 256] inb).toLoadRect (harg6.unread x4) = x4 := fun inb => (View.readAt_full arg6.view _ inb).trans (harg6.read_unread x4)
  have q6 : ∀ inb, arg6.view.readAt (Elt F) (Rect.unit (s := S128x256) ![0, 0] S128x256.size inb).toLoadRect (harg6.unread x4) = x4 := fun inb => (View.readAt_full arg6.view _ inb).trans (harg6.read_unread x4)
  have r7 : ∀ inb, arg7.view.readAt (Elt F) (Rect.unit (s := S1x256) ![0, 0] ![1, 256] inb).toLoadRect (harg7.unread x5) = x5 := fun inb => (View.readAt_full arg7.view _ inb).trans (harg7.read_unread x5)
  have q7 : ∀ inb, arg7.view.readAt (Elt F) (Rect.unit (s := S1x256) ![0, 0] S1x256.size inb).toLoadRect (harg7.unread x5) = x5 := fun inb => (View.readAt_full arg7.view _ inb).trans (harg7.read_unread x5)
  have r8 : ∀ inb, arg8.view.readAt (Elt F) (Rect.unit (s := S256x128) ![0, 0] ![256, 128] inb).toLoadRect (harg8.unread x6) = x6 := fun inb => (View.readAt_full arg8.view _ inb).trans (harg8.read_unread x6)
  have q8 : ∀ inb, arg8.view.readAt (Elt F) (Rect.unit (s := S256x128) ![0, 0] S256x128.size inb).toLoadRect (harg8.unread x6) = x6 := fun inb => (View.readAt_full arg8.view _ inb).trans (harg8.read_unread x6)
  have r9 : ∀ inb, arg9.view.readAt (Elt F) (Rect.unit (s := S1x128) ![0, 0] ![1, 128] inb).toLoadRect (harg9.unread x7) = x7 := fun inb => (View.readAt_full arg9.view _ inb).trans (harg9.read_unread x7)
  have q9 : ∀ inb, arg9.view.readAt (Elt F) (Rect.unit (s := S1x128) ![0, 0] S1x128.size inb).toLoadRect (harg9.unread x7) = x7 := fun inb => (View.readAt_full arg9.view _ inb).trans (harg9.read_unread x7)
  have r10 : ∀ inb, arg10.view.readAt (Elt F) (Rect.unit (s := S128x128) ![0, 0] ![128, 128] inb).toLoadRect (harg10.unread x8) = x8 := fun inb => (View.readAt_full arg10.view _ inb).trans (harg10.read_unread x8)
  have q10 : ∀ inb, arg10.view.readAt (Elt F) (Rect.unit (s := S128x128) ![0, 0] S128x128.size inb).toLoadRect (harg10.unread x8) = x8 := fun inb => (View.readAt_full arg10.view _ inb).trans (harg10.read_unread x8)
  have r11 : ∀ inb, arg11.view.readAt (Elt F) (Rect.unit (s := S1x128) ![0, 0] ![1, 128] inb).toLoadRect (harg11.unread x9) = x9 := fun inb => (View.readAt_full arg11.view _ inb).trans (harg11.read_unread x9)
  have q11 : ∀ inb, arg11.view.readAt (Elt F) (Rect.unit (s := S1x128) ![0, 0] S1x128.size inb).toLoadRect (harg11.unread x9) = x9 := fun inb => (View.readAt_full arg11.view _ inb).trans (harg11.read_unread x9)
  have r13 : ∀ inb, arg13.view.readAt (Elt F) (Rect.unit (s := S1x4096) ![0, 0] ![1, 4096] inb).toLoadRect (harg13.unread xs) = xs := fun inb => (View.readAt_full arg13.view _ inb).trans (harg13.read_unread xs)
  have q13 : ∀ inb, arg13.view.readAt (Elt F) (Rect.unit (s := S1x4096) ![0, 0] S1x4096.size inb).toLoadRect (harg13.unread xs) = xs := fun inb => (View.readAt_full arg13.view _ inb).trans (harg13.read_unread xs)
  have cov : ∀ inb inb' (w : Vec F S1x4096 .f32), arg13.view.readCov (Val := Elt F) (e := .f32) [⟨Rect.unit (s := S1x4096) ![0, 0] ![1, 4096] inb', w⟩] (Rect.unit (s := S1x4096) ![0, 0] S1x4096.size inb).toLoadRect = w := fun inb inb' w => View.readCov_full arg13.view inb inb' w []
  have cov' : ∀ inb inb' (w : Vec F S1x4096 .f32), arg13.view.readCov (Val := Elt F) (e := .f32) [⟨Rect.unit (s := S1x4096) ![0, 0] ![1, 4096] inb', w⟩] (Rect.unit (s := S1x4096) ![0, 0] ![1, 4096] inb).toLoadRect = w := fun inb inb' w => View.readCov_full arg13.view inb inb' w []
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    (try sl_unfold_words)
    refine (View.read_writes_full _ _ _ _ _).trans ?_
    simp only [r2, q2, r3, q3, r4, q4, r5, q5, r6, q6, r7, q7, r8, q8, r9, q9, r10, q10, r11, q11, r13, q13, cov, cov']
    refine congrArg (fun e => k0_pay5 e x4 x5 x6 x7 x8 x9) ?_
    refine (View.readAt_full arg14.view _ _).trans ?_
    refine (View.read_writes_cons_put _ _ _ _ _ rfl).trans ?_
    rw [View.writes_nil, harg14.read_unread]
    refine congrArg (VecWindow.put (s := S8x128) ev (k0_off1 i) S1x128.size) ?_
    rfl
  isplitl [HS0]
  · iexists _; isplitr; swap; · iexact HS0
    ipureintro
    (try sl_unfold_words)
    refine (View.read_writes_full _ _ _ _ _).trans ?_
    simp only [r2, q2, r3, q3, r4, q4, r5, q5, r6, q6, r7, q7, r8, q8, r9, q9, r10, q10, r11, q11, r13, q13, cov, cov']
  iexists _; isplitr; swap; · iexact HS1
  ipureintro
  (try sl_unfold_words)
  refine (View.read_writes_cons_put _ _ _ _ _ rfl).trans ?_
  rw [View.writes_nil, harg14.read_unread]
  refine congrArg (VecWindow.put (s := S8x128) ev (k0_off1 i) S1x128.size) ?_
  simp only [r2, q2, r3, q3, r4, q4, r5, q5, r6, q6, r7, q7, r8, q8, r9, q9, r10, q10, r11, q11, r13, q13, cov, cov']
  rfl

end Cert.KernelIdeal.Body

end
-- ==== Proof.Region.lean ====
/-
  The pipelined region as a whole. Before grid point `n` the two scratch buffers hold: the running channel sum of the image being
  processed (`accAt`, unless the image is just starting), and the evidence rows of the images already finished (`evAll`, the full
  table of evidence). The body keeps this invariant at every point (`sound_body`), so the launch runs every fair execution to its
  end with the output block at the perceptron of the full evidence table.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.RunsInner
public import proofs.«01_k».proof.Proof.RunLast
public import proofs.«01_k».proof.Proof.RunEnd
public import Idealize.ShloMosaic.Lib.Claim
public import Idealize.ShloMosaic.Lib.ValueIdx
public import Idealize.ShloMosaic.Lib.Pipeline.FrameBody
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the scratch buffers hold -/

/-- The grid point numbered `n`. -/
def pt (n : ℕ) : Fin cfg0.N := ⟨n % 32, Nat.lt_of_lt_of_eq (Nat.mod_lt n (by decide)) (show 32 = cfg0.N from N_0.symm)⟩

theorem pt_val (t : Fin cfg0.N) : pt t.val = t :=
  Fin.ext (Nat.mod_eq_of_lt (Nat.lt_of_lt_of_eq t.isLt (show cfg0.N = 32 from N_0)))

/-- The running channel sum after grid point `n`: restarted at an image's first channel block, added to at the others. -/
def accAt (c : Dev nD) : ℕ → Vec F S1x4096 .f32
  | 0 => k0_pay2 (iblk m c 2 (pt 0)) (iblk m c 0 (pt 0)) (iblk m c 1 (pt 0))
  | n + 1 =>
    if (n + 1) % 4 = 0 then k0_pay2 (iblk m c 2 (pt (n + 1))) (iblk m c 0 (pt (n + 1))) (iblk m c 1 (pt (n + 1)))
    else k0_pay3 (iblk m c 2 (pt (n + 1))) (iblk m c 0 (pt (n + 1))) (iblk m c 1 (pt (n + 1))) (accAt c n)

theorem accAt_first (c : Dev nD) (t : Fin cfg0.N) (h : t.val % 4 = 0) :
    accAt m c t.val = k0_pay2 (iblk m c 2 t) (iblk m c 0 t) (iblk m c 1 t) := by
  conv_rhs => rw [← pt_val t]
  generalize t.val = n at h ⊢
  cases n with
  | zero => rfl
  | succ n => exact if_pos h

theorem accAt_later (c : Dev nD) (t : Fin cfg0.N) (h : t.val % 4 ≠ 0) :
    accAt m c t.val = k0_pay3 (iblk m c 2 t) (iblk m c 0 t) (iblk m c 1 t) (accAt m c (t.val - 1)) := by
  have e : ∀ n, n % 4 ≠ 0 → accAt m c n = k0_pay3 (iblk m c 2 (pt n)) (iblk m c 0 (pt n)) (iblk m c 1 (pt n)) (accAt m c (n - 1)) := fun n hn => by
    cases n with
    | zero => exact absurd rfl hn
    | succ n => exact if_neg hn
  have := e t.val h
  rwa [pt_val] at this

/-- The evidence row of image `b`. -/
def evRowAt (c : Dev nD) (b : ℕ) : Vec F S1x128 .f32 := evRow (accAt m c (4 * b + 3)) (iblk m c 3 (pt (4 * b + 3)))

/-- The table of evidence of all eight images, one row each. -/
def evAll (c : Dev nD) : Vec F S8x128 .f32 := fun j => evRowAt m c (j 0).val (ix2 0 (j 1))

/-- The output block the last grid point leaves. -/
def outAt (c : Dev nD) (t : Fin cfg0.N) : Vec F S8x128 .f32 :=
  k0_pay5 (evAll m c) (iblk m c 4 t) (iblk m c 5 t) (iblk m c 6 t) (iblk m c 7 t) (iblk m c 8 t) (iblk m c 9 t)

/-- What holds of the two scratch buffers before grid point `n`. -/
def Inv (c : Dev nD) (n : ℕ) (xs : Vec F S1x4096 .f32) (ev : Vec F S8x128 .f32) : Prop :=
  (n % 4 ≠ 0 → xs = accAt m c (n - 1)) ∧ ∀ j : S8x128.Idx, 4 * (j 0).val + 4 ≤ n → ev j = evAll m c j

theorem inv_zero (c : Dev nD) (xs ev) : Inv m c 0 xs ev := ⟨fun h => absurd rfl h, fun j h => absurd h (by omega)⟩

/-- A point that writes no evidence row leaves the finished rows as they are. -/
theorem inv_keep (c : Dev nD) (t : Fin cfg0.N) (h : t.val % 4 ≠ 3) {xs ev} (hI : Inv m c t.val xs ev) :
    Inv m c (t.val + 1) (accAt m c t.val) ev :=
  ⟨fun _ => rfl, fun j hj => hI.2 j (by omega)⟩

/-- The last channel block of an image adds the image's row to the finished rows. -/
theorem inv_row (c : Dev nD) (t : Fin cfg0.N) (h : t.val % 4 = 3) {xs ev} (hI : Inv m c t.val xs ev) :
    Inv m c (t.val + 1) (accAt m c t.val) (putRow (grid0.coords t) ev (evRow (accAt m c t.val) (iblk m c 3 t))) := by
  refine ⟨fun _ => rfl, fun j hj => ?_⟩
  have hoff := off_eq t
  have hrow : evRow (accAt m c t.val) (iblk m c 3 t) = evRowAt m c (t.val / 4) := by
    have e : 4 * (t.val / 4) + 3 = t.val := by omega
    unfold evRowAt; rw [e, pt_val]
  rw [hrow]
  unfold putRow
  rw [hoff]
  unfold VecWindow.put
  by_cases hw : ∀ a, (![t.val / 4, 0] : Fin 2 → ℕ) a ≤ (j a).val ∧ (j a).val < (![t.val / 4, 0] : Fin 2 → ℕ) a + S1x128.size a
  · rw [dif_pos hw]
    have h0 : t.val / 4 ≤ (j 0).val ∧ (j 0).val < t.val / 4 + 1 := hw 0
    have hb : t.val / 4 = (j 0).val := by omega
    unfold evAll
    rw [← hb]
    refine congrArg (evRowAt m c (t.val / 4)) (funext fun a => ?_)
    match a with
    | ⟨0, _⟩ => exact Subsingleton.elim (α := Fin 1) _ _
    | ⟨1, _⟩ => exact Fin.ext (Nat.sub_zero _)
  · rw [dif_neg hw]
    refine hI.2 j ?_
    by_contra hc
    refine hw fun a => ?_
    match a with
    | ⟨0, _⟩ => exact ⟨by show t.val / 4 ≤ (j 0).val; omega, by show (j 0).val < t.val / 4 + 1; omega⟩
    | ⟨1, _⟩ => exact ⟨Nat.zero_le _, by show (j 1).val < 0 + 128; have : (j 1).val < 128 := (j 1).isLt; omega⟩

/-- After the last point the evidence buffer is the full table. -/
theorem inv_full (c : Dev nD) {n xs ev} (hn : 32 ≤ n) (hI : Inv m c n xs ev) : ev = evAll m c :=
  funext fun j => hI.2 j (by have : (j 0).val < 8 := (j 0).isLt; omega)

/-! ## The region's data -/

abbrev ms0 (t : Fin cfg0.N) : Memref sig .tc .vmem S1x512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x128 .f32 := win0_10.stage (cfg0.slots t 10)
abbrev hs10 (t : Fin cfg0.N) : (ms10 t).IsWhole := hstage0_10 ((cfg0.slots t 10).cast nbuf0_10)
/-- The two scratch buffers: the running channel sum, and the evidence rows. -/
abbrev scAcc : Memref sig .tc .vmem S1x4096 .f32 := Memref.whole cc0_scratch0
abbrev scEv : Memref sig .tc .vmem S8x128 .f32 := Memref.whole cc0_scratch1

/-- The scratch buffers at some contents, as the launch hands them over, with the buffers named. -/
theorem PhiA_eq (c : Dev nD) :
    (Pipeline.ΦA spec0 c : sProp 𝕄)
      = iprop(iprop((∃ d, owns (c : Thread nD τ) scAcc fullShare d) ∗ (∃ d, owns (c : Thread nD τ) scEv fullShare d)) ∗ (∃ r, prngReg c r)) := by
  unfold Pipeline.ΦA; rw [scopedRest0_eq]; simp only [scAcc, scEv, owns_whole]; try rfl

/-- The invariant before grid point `n`. -/
def Phi (c : Dev nD) (n : ℕ) : sProp 𝕄 :=
  iprop((∃ xs ev, ⌜Inv m c n xs ev⌝ ∗ owns (c : Thread nD τ) scAcc fullShare xs ∗ owns (c : Thread nD τ) scEv fullShare ev) ∗ (∃ r, prngReg c r))

/-- The region's data: its arrays as the region finds them, each input's block after each point, the output block, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after_7]
theorem leaves_8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after_8]
theorem leaves_9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after_9]
/-- Before the last point the output block is not touched: it is handed back as it was handed over. -/
theorem leaves_10_idle (c : Dev nD) (t : Fin cfg0.N) (h : ¬ t.val = 31) :
    (dats m 0 c).leavesExact 10 t = iprop(∃ d, owns (c : Thread nD τ) (ms10 t) fullShare ((dats m 0 c).before 10 t d)) := by
  have ht : t.val < 32 := Nat.lt_of_lt_of_eq t.isLt (show cfg0.N = 32 from N_0)
  refine (dats m 0 c).leavesExact_idle 10 t ?_ ?_
  · show (!(k0_cond4 (grid0.coords t) == 1#1)) = true
    have : ¬ k0_cond4 (grid0.coords t) = 1#1 := fun hc => h ((condEnd_iff t).mp hc)
    simpa using this
  · exact Bool.eq_false_iff.mpr fun hf => h (by have := (flush0_10 t).mp hf; omega)

/-- The last point leaves the output block at the perceptron of the evidence table. -/
theorem leaves_10_end (c : Dev nD) (t : Fin cfg0.N) (h : t.val = 31) :
    (dats m 0 c).leavesExact 10 t = owns (c : Thread nD τ) (ms10 t) fullShare (outAt m c t) := by
  have hi : cfg0.idle 10 (cfg0.grid.coords t) = false := by
    show (!(k0_cond4 (grid0.coords t) == 1#1)) = false
    have : k0_cond4 (grid0.coords t) = 1#1 := (condEnd_iff t).mpr h
    rw [this]; rfl
  unfold Dat.leavesExact; rw [hi, after_10]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body keeps the invariant at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, leaves_0, leaves_1, leaves_2, leaves_3, leaves_4, leaves_5, leaves_6, leaves_7, leaves_8, leaves_9]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  have hN : t.val < 32 := Nat.lt_of_lt_of_eq t.isLt (show cfg0.N = 32 from N_0)
  have hF := condFirst_iff t
  have hL := condLater_iff t
  have hR := condLast_iff t
  have hE := condEnd_iff t
  by_cases h0 : t.val % 4 = 0
  · have hne : ¬ t.val = 31 := by omega
    rw [leaves_10_idle m c t hne]
    iintro ⟨⟨⟨%xs, %ev, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have key := inv_keep m c t (by omega) hI
    rw [accAt_first m c t h0] at key
    iapply (runFirst c (grid0.coords t) _ _ _ _ _ _ _ _ _ _ _ _ _ _ _ _ _ _ _ _ _ _ _ _ _ _ (hF.mpr h0) (fun h => hL.mp h h0) (fun h => by have := hR.mp h; omega) (fun h => hne (hE.mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ev Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexists _; iexact HS0
    isplitl [HS1]; · iexact HS1
    iintro ⟨H0, H1, H2, H3, H4, H5, H6, H7, H8, H9, H10, HS0, HS1⟩
    isplitl [HS0 HS1 Hg]
    · isplitl [HS0 HS1]
      · iexists _; iexists _
        isplitr
        swap
        · isplitl [HS0]; · iexact HS0
          iexact HS1
        ipureintro; exact key
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  by_cases h3 : t.val % 4 = 3
  · by_cases h31 : t.val = 31
    · rw [leaves_10_end m c t h31]
      iintro ⟨⟨⟨%xs, %ev, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hxs := hI.1 h0
      subst hxs
      have key := inv_row m c t h3 hI
      have hfull := inv_full m c (by omega) key
      rw [accAt_later m c t h0] at key hfull
      iapply (runEnd c (grid0.coords t) _ _ _ _ _ _ _ _ _ _ _ _ _ _ _ _ _ _ _ _ _ _ _ _ _ _ (fun h => h0 (hF.mp h)) (hL.mpr h0) (hR.mpr h3) (hE.mpr h31) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ev (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      rw [hfull]
      isplitl [HS0 HS1 Hg]
      · isplitl [HS0 HS1]
        · iexists _; iexists _
          isplitr
          swap
          · isplitl [HS0]; · iexact HS0
            iexact HS1
          ipureintro; exact hfull ▸ key
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [leaves_10_idle m c t h31]
      iintro ⟨⟨⟨%xs, %ev, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hxs := hI.1 h0
      subst hxs
      have key := inv_row m c t h3 hI
      rw [accAt_later m c t h0] at key
      iapply (runLast c (grid0.coords t) _ _ _ _ _ _ _ _ _ _ _ _ _ _ _ _ _ _ _ _ _ _ _ _ _ _ (fun h => h0 (hF.mp h)) (hL.mpr h0) (hR.mpr h3) (fun h => h31 (hE.mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ev (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · iexists _; iexists _
          isplitr
          swap
          · isplitl [HS0]; · iexact HS0
            iexact HS1
          ipureintro; exact key
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
  · have hne : ¬ t.val = 31 := by omega
    rw [leaves_10_idle m c t hne]
    iintro ⟨⟨⟨%xs, %ev, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hxs := hI.1 h0
    subst hxs
    have key := inv_keep m c t h3 hI
    rw [accAt_later m c t h0] at key
    iapply (runInner c (grid0.coords t) _ _ _ _ _ _ _ _ _ _ _ _ _ _ _ _ _ _ _ _ _ _ _ _ _ _ (fun h => h0 (hF.mp h)) (hL.mpr h0) (fun h => h3 (hR.mp h)) (fun h => hne (hE.mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ev (accAt m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · iexists _; iexists _
        isplitr
        swap
        · isplitl [HS0]; · iexact HS0
          iexact HS1
        ipureintro; exact key
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over satisfies the invariant before the first point, -/
theorem hin (c : Dev nD) : Pipeline.ΦA spec0 c ⊢ (dats m 0 c).Φ 0 := by
  rw [show (dats m 0 c).Φ 0 = Phi m c 0 from rfl, PhiA_eq]
  unfold Phi
  iintro ⟨⟨⟨%xs, HS0⟩, ⟨%ev, HS1⟩⟩, Hg⟩
  isplitl [HS0 HS1]
  · iexists xs; iexists ev
    isplitr
    swap
    · isplitl [HS0]; · iexact HS0
      iexact HS1
    ipureintro; exact inv_zero m c xs ev
  iexact Hg

/-- and the invariant after the last point gives it back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%xs, %ev, %hI, HS0, HS1⟩, Hg⟩
  isplitl [HS0 HS1]
  · isplitl [HS0]
    · iexists _; iexact HS0
    iexists _; iexact HS1
  iexact Hg

/-! ## The run -/

set_option backward.isDefEq.respectTransparency.types false in
set_option maxHeartbeats 800000 in
/-- Every fair execution of the program ends, with the region's arrays at what the region's data says, every other buffer at what
    the host operations after the region leave, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Body

end
-- ==== Proof.Result.lean ====
/-
  What a run of the kernel leaves: the output block holds the perceptron of the full evidence table, the host's two
  closing operations take its first column, and the arguments and the semaphore counters are as they were.
-/
module

public import proofs.«01_k».proof.Proof.Region
public import Idealize.ShloMosaic.Lib.StableHlo.Run

@[expose] public section

set_option maxRecDepth 16384

noncomputable section

namespace Cert.KernelIdeal.Body

open Idealize.ShloMosaic Idealize.ShloMosaic.TcCoe Idealize.ShloMosaic.Tactic
open Idealize.ShloMosaic.ValueIdx Idealize.ShloMosaic.Pipeline
open Idealize.SL.Sem
open Cert.KernelIdeal Cert.KernelIdeal.Gen

variable {F : FTy → Type} [FloatOps F]
variable (m : (ℓ : Loc nD τ sig) → Buf (Elt F) ℓ) (ρ : Dev nD → PrngReg)

/-- The last grid point. -/
abbrev tEnd : Fin cfg0.N := pt 31

/-- The output block at the end of the run. -/
abbrev result (c : Dev nD) : Buf (Elt F) ((c : Thread nD τ).loc main_v35) := outAt m c tEnd

/-- The one write-back of the output window, at the last point, writes the whole array. -/
theorem flushed_eq (c : Dev nD) (t : Fin cfg0.N) (hf : (cfg0.win 10).flush t = true) :
    (dats m 0 c).flushed 10 t = ((cfg0.win 10).blk t).view.read (Elt F) (result m c) := by
  have hN : cfg0.N = 32 := N_0
  have h3 : t.val = 31 := by have := (flush0_10 t).mp hf; have := t.isLt; omega
  obtain rfl : t = tEnd := Fin.ext h3
  show (cfg0.win 10).cut (grid0.coords tEnd) ((dats m 0 c).after 10 tEnd) = _
  rw [after_10]
  have hz' : (fun a => win0_10.index tEnd a * main_v35.ty.shape.size a) = fun _ => 0 := funext fun a => by
    fin_cases a <;> decide +kernel
  exact (Memref.read_access_unit_zero (Elt F) main_v35 hz' (fun a => by rw [congrFun hz' a]; simp) (result m c)).symm

/-- So the output array ends at it. -/
theorem final_out (c : Dev nD) : (dats m 0 c).arrAt 10 cfg0.N = result m c :=
  (dats m 0 c).arrAt_eq_of_cover 10 (result m c) (flushed_eq m c) fun i =>
    ⟨tEnd, (flush0_10 tEnd).mpr rfl, by
      show i ∈ ((View.whole main_v35).slice (win0_10.rect tEnd)).set
      rw [View.set_slice_whole, Rect.mem_set_unit]
      intro a
      have h0 : (i 0 : Nat) < 8 := (i 0).isLt
      have h1 : (i 1 : Nat) < 128 := (i 1).isLt
      match a with
      | ⟨0, _⟩ => show win0_10.index tEnd 0 * win0_10.size 0 ≤ (i 0 : Nat) ∧ (i 0 : Nat) < win0_10.index tEnd 0 * win0_10.size 0 + win0_10.xsize (grid0.coords tEnd) 0
                  rw [show win0_10.index tEnd 0 * win0_10.size 0 = 0 from by decide +kernel, show win0_10.xsize (grid0.coords tEnd) 0 = 8 from by decide +kernel]; omega
      | ⟨1, _⟩ => show win0_10.index tEnd 1 * win0_10.size 1 ≤ (i 1 : Nat) ∧ (i 1 : Nat) < win0_10.index tEnd 1 * win0_10.size 1 + win0_10.xsize (grid0.coords tEnd) 1
                  rw [show win0_10.index tEnd 1 * win0_10.size 1 = 0 from by decide +kernel, show win0_10.xsize (grid0.coords tEnd) 1 = 128 from by decide +kernel]; omega⟩

/-- The program's result: the first column of the output block, as a vector. -/
def kernelResult (c : Dev nD) : Vec F S8 .f32 :=
  shapeCast S8 (extractStridedSlice S8x1 ![0, 0] (outAt m c tEnd) slices_S8x128_S8x1_0_0) shapeCasts_S8x1_S8

/-- The two windows on the image are inputs, so the array they share ends as it was when the region was entered. -/
theorem shared_arrays (c : Dev nD) (w w' : Fin cfg0.W) (hne : w ≠ w') (h : Pipeline.arrRef spec0 w = Pipeline.arrRef spec0 w') :
    (dats m 0 c).arrAt w cfg0.N = V0 m c (Proc.devRef .tc (Pipeline.arrRef spec0 w)) := by
  have hw : w = 0 ∨ w = 1 := by
    revert h hne
    exact (by decide : ∀ w w' : Fin cfg0.W, w ≠ w' → Pipeline.arrRef spec0 w = Pipeline.arrRef spec0 w' → w = 0 ∨ w = 1) w w'
  rcases hw with rfl | rfl
  · exact ((dats m 0 c).arrAt_in 0 rfl _).trans (A_eq m c 0)
  · exact ((dats m 0 c).arrAt_in 1 rfl _).trans (A_eq m c 1)

theorem out_array (c : Dev nD) :
    Pipeline.withArrays (cfgs 0).spec c (V0 m c) (fun w => (dats m 0 c).arrAt w (cfgs 0).N) (Proc.devRef .tc main_v35)
      = outAt m c tEnd :=
  (Pipeline.withArrays_arr_shared (cfgs 0).spec c (V0 m c) (fun w => (dats m 0 c).arrAt w (cfgs 0).N)
    (shared_arrays m c) 10).trans (final_out m c)

theorem tail_result (c : Dev nD) :
    Pipeline.afterTail₀ cfgs (dats m) 0 (V0 m) [hostOps1] c main_v37 = kernelResult m c := by
  unfold Pipeline.afterTail₀
  show StableHlo.after hostOps1 _ (Proc.devRef .tc main_v37) = _
  after_results
  rw [out_array]
  rfl

/-- A run of the kernel: the result, the arguments unchanged, every semaphore counter at zero. -/
theorem run_value : θ_run defs (onTc (τ := τ) (main (F := F))) ⟨m, fun _ => 0, ρ⟩ (fun r => (∀ c : Dev nD,
      r.2.mem ((c.tc : Thread nD τ).loc main_v37) = kernelResult m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono
    (fun r h => ⟨fun c => (((h.1.1 c).2 main_v37 (Pipeline.mem_restRefs_of main_v37 (by decide) (by decide))).trans
      (tail_result m c)), h.2, h.1.2⟩)
    (θ_run_and (run_main m ρ) (frame_of m ρ (dats m) (A_eq m) ((θ_run defs _ _).mono (fun _ h => h.1) (run_main m ρ))))

end Cert.KernelIdeal.Body

end
-- ==== Proof.Ranks.lean ====
/-
  Taking maxima out one at a time gives the values in descending order.  A family `x` over a finite index type is
  scanned: its greatest value is taken, one index that attains it is overwritten with the least element, and the
  scan is repeated.  The value taken at step `k` is the value at position `k` of any descending arrangement of the
  family — with ties, and also when the family holds least elements itself.
-/
module

public import Idealize.ShloMosaic.PureOps
public import Idealize.ShloMosaic.Lib.SortFacts
public import Mathlib.Data.Fintype.Card
public import Mathlib.Order.BoundedOrder.Basic

@[expose] public section

namespace Cert.Ranks

open Idealize.ShloMosaic

variable {α : Type} [LinearOrder α] [OrderBot α] {n : Nat}

/-- One step of the scan: `M` is the greatest value of `x`, and `x'` is `x` with the least element written at one
    index that attains `M`. -/
def Step (x x' : Fin n → α) (M : α) : Prop :=
  (∀ i, x i ≤ M) ∧ ∃ i, x i = M ∧ x' i = ⊥ ∧ ∀ j, j ≠ i → x' j = x j

/-- The number of indices at which `x` is at least `a`. -/
def count (x : Fin n → α) (a : α) : Nat := (Finset.univ.filter fun i => a ≤ x i).card

/-- A step takes one index away from the count of every level that is still attained. -/
theorem count_step {x x' : Fin n → α} {M : α} (h : Step x x' M) {a : α} (ha : ⊥ < a) : count x' a = count x a - 1 := by
  obtain ⟨hM, i, hi, hb, hx⟩ := h
  unfold count
  have key : (Finset.univ.filter fun j => a ≤ x' j) = (Finset.univ.filter fun j => a ≤ x j).erase i := by
    ext j
    simp only [Finset.mem_filter, Finset.mem_univ, true_and, Finset.mem_erase]
    by_cases e : j = i
    · subst e
      simp only [hb, ne_eq, not_true_eq_false, false_and, iff_false, not_le]
      exact ha
    · simp only [hx j e, ne_eq, e, not_false_eq_true, true_and]
  rw [key]
  by_cases hai : a ≤ x i
  · exact Finset.card_erase_of_mem (by simpa using hai)
  · have he : (Finset.univ.filter fun j => a ≤ x j) = ∅ := by
      ext j
      simp only [Finset.mem_filter, Finset.mem_univ, true_and, Finset.notMem_empty, iff_false]
      exact fun hj => hai (hj.trans ((hM j).trans hi.ge))
    rw [he]; simp

/-- The greatest value is at least `a` exactly when the count of `a` is positive. -/
theorem le_max_iff {x x' : Fin n → α} {M : α} (h : Step x x' M) (a : α) : a ≤ M ↔ 1 ≤ count x a := by
  obtain ⟨hM, i, hi, -, -⟩ := h
  unfold count
  rw [Nat.succ_le_iff, Finset.card_pos]
  constructor
  · exact fun ha => ⟨i, by simpa using ha.trans hi.ge⟩
  · rintro ⟨j, hj⟩
    exact (by simpa using hj : a ≤ x j).trans (hM j)

/-- In a descending arrangement `x ∘ σ`, position `k` is at least `a` exactly when more than `k` indices are. -/
theorem le_sorted_iff (x : Fin n → α) (σ : Fin n → Fin n) (hσ : Function.Injective σ)
    (hs : ∀ i j, i < j → x (σ j) ≤ x (σ i)) (k : Fin n) (a : α) : a ≤ x (σ k) ↔ k.val + 1 ≤ count x a := by
  have hbij : Function.Bijective σ := ⟨hσ, Finite.surjective_of_injective hσ⟩
  have hc : count x a = (Finset.univ.filter fun j => a ≤ x (σ j)).card := by
    unfold count
    refine (Finset.card_bij (fun j _ => σ j) ?_ ?_ ?_).symm
    · intro j hj; simpa using hj
    · intro a _ b _ e; exact hσ e
    · intro b hb
      obtain ⟨j, rfl⟩ := hbij.2 b
      exact ⟨j, by simpa using hb, rfl⟩
  rw [hc]
  constructor
  · intro ha
    calc k.val + 1 = (Finset.Iic k).card := by simp
      _ ≤ _ := Finset.card_le_card fun j hj => by
        rw [Finset.mem_Iic] at hj
        simp only [Finset.mem_filter, Finset.mem_univ, true_and]
        rcases lt_or_eq_of_le hj with h | rfl
        · exact ha.trans (hs j k h)
        · exact ha
  · intro hk
    by_contra hn
    have : (Finset.univ.filter fun j => a ≤ x (σ j)).card ≤ (Finset.Iio k).card := Finset.card_le_card fun j hj => by
      simp only [Finset.mem_filter, Finset.mem_univ, true_and] at hj
      rw [Finset.mem_Iio]
      by_contra hkj
      rcases lt_or_eq_of_le (not_lt.mp hkj) with h | rfl
      · exact hn (hj.trans (hs k j h))
      · exact hn hj
    simp at this
    omega

/-- After `k` steps, the count of every level above the least element has gone down by `k`. -/
theorem count_steps {x : Nat → Fin n → α} {M : Nat → α} {K : Nat} (h : ∀ k, k < K → Step (x k) (x (k + 1)) (M k))
    {a : α} (ha : ⊥ < a) : ∀ k, k ≤ K → count (x k) a = count (x 0) a - k
  | 0, _ => rfl
  | k + 1, hk => by
    rw [count_step (h k hk) ha, count_steps h ha k (by omega)]
    omega

/-- **The value taken at step `k` is the value at position `k` of any descending arrangement.** -/
theorem step_eq_sorted {x : Nat → Fin n → α} {M : Nat → α} {K : Nat} (h : ∀ k, k < K → Step (x k) (x (k + 1)) (M k))
    (σ : Fin n → Fin n) (hσ : Function.Injective σ) (hs : ∀ i j, i < j → x 0 (σ j) ≤ x 0 (σ i))
    (k : Fin n) (hk : k.val < K) : M k.val = x 0 (σ k) := by
  refine eq_of_forall_le_iff fun a => ?_
  rcases eq_or_lt_of_le (bot_le (a := a)) with rfl | ha
  · simp
  · rw [le_max_iff (h k hk), count_steps h ha k (by omega), le_sorted_iff (x 0) σ hσ hs k a]
    omega

end Cert.Ranks

end
-- ==== Proof.Extract.lean ====
/-
  The kernel's extraction of extreme scores, one at a time.  `topMax x` is the greatest of 4096 scores and `maskMax x` the
  scores with the first greatest overwritten by minus infinity; `botMin` and `maskMin` mirror them.  The evidence row is
  the first ten columns of these (`evRow_eq`).  At the ideal values one extraction is a step of `Cert.Ranks`
  (`step_max`, `step_min`).
-/
module

public import proofs.«01_k».proof.Proof.Body
public import proofs.«01_k».proof.Proof.Ranks
public import Idealize.ShloMosaic.PureOps.Ideal
public import Idealize.ShloMosaic.PureOps.Ideal.Laws
public import Idealize.ShloMosaic.Lib.Pointwise
public import Idealize.ShloMosaic.Lib.ValueIdx

@[expose] public section

set_option maxRecDepth 16384

noncomputable section

namespace Cert.KernelIdeal.Extract

open Idealize.ShloMosaic
open Cert.KernelIdeal Cert.KernelIdeal.Gen Cert.KernelIdeal.Body

section generic
variable {F : FTy → Type} [FloatOps F]

/-- The column number of each score. -/
abbrev cols : IVec S1x4096 32 := iota .tc S1x4096 32 [1] iota_S1x4096_d1_w32
/-- The column number of each entry of the evidence row. -/
abbrev slots : IVec S1x128 32 := iota .tc S1x128 32 [1] iota_S1x128_d1_w32

/-- The greatest score. -/
def topMax (x : FVec F S1x4096 .f32) : F .f32 :=
  extractAt ![0, 0, 0] (shapeCast S1x1x1 (multiReduction .maximumf [1, 2] S1
    (shapeCast S1x1x4096 x shapeCasts_S1x4096_S1x1x4096) 0xFF800000#32 reduces_S1x1x4096_S1 (.inl rfl) rfl)
    shapeCasts_S1_S1x1x1) inpos_S1x1x1_p0_0_0

/-- The least score. -/
def botMin (x : FVec F S1x4096 .f32) : F .f32 :=
  extractAt ![0, 0, 0] (shapeCast S1x1x1 (multiReduction .minimumf [1, 2] S1
    (shapeCast S1x1x4096 x shapeCasts_S1x4096_S1x1x4096) 0x7F800000#32 reduces_S1x1x4096_S1 (.inl rfl) rfl)
    shapeCasts_S1_S1x1x1) inpos_S1x1x1_p0_0_0

/-- The first column whose score is `M` (4096 where there is none). -/
def firstAt (x : FVec F S1x4096 .f32) (M : F .f32) : BitVec 32 :=
  extractAt ![0, 0, 0] (shapeCast S1x1x1 (multiReductionI .minsi [1, 2] S1
    (shapeCast S1x1x4096 (select (cmpf .oeq x (broadcast S1x4096 M)) cols (broadcast S1x4096 4096#32)) shapeCasts_S1x4096_S1x1x4096)
    2147483647#32 reduces_S1x1x4096_S1 rfl) shapeCasts_S1_S1x1x1) inpos_S1x1x1_p0_0_0

/-- The scores with the column `i` overwritten by the number of bit pattern `w`. -/
def overwrite (x : FVec F S1x4096 .f32) (i : BitVec 32) (w : BitVec 32) : FVec F S1x4096 .f32 :=
  select (cmpi .eq cols (broadcast S1x4096 i)) (broadcast S1x4096 (Scalar.ofBits .f32 w)) x

/-- The scores with the first greatest overwritten by minus infinity. -/
def maskMax (x : FVec F S1x4096 .f32) : FVec F S1x4096 .f32 := overwrite x (firstAt x (topMax x)) 0xFF800000#32
/-- The scores with the first least overwritten by plus infinity. -/
def maskMin (x : FVec F S1x4096 .f32) : FVec F S1x4096 .f32 := overwrite x (firstAt x (botMin x)) 0x7F800000#32

/-- The evidence row `r` with entry `k` set to `v`. -/
def setSlot (k : BitVec 32) (v : F .f32) (r : FVec F S1x128 .f32) : FVec F S1x128 .f32 :=
  select (cmpi .eq slots (broadcast S1x128 k)) (broadcast S1x128 v) r

/-- The evidence row: the five greatest scores, the five least, then zeros. -/
theorem evRow_eq (acc : Vec F S1x4096 .f32) (b : Vec F S1x1 .f32) :
    evRow acc b = shapeCast S1x128
      (setSlot 9#32 (botMin (maskMin (maskMin (maskMin (maskMin (k0_pay6 acc b))))))
      (setSlot 8#32 (botMin (maskMin (maskMin (maskMin (k0_pay6 acc b)))))
      (setSlot 7#32 (botMin (maskMin (maskMin (k0_pay6 acc b))))
      (setSlot 6#32 (botMin (maskMin (k0_pay6 acc b)))
      (setSlot 5#32 (botMin (k0_pay6 acc b))
      (setSlot 4#32 (topMax (maskMax (maskMax (maskMax (maskMax (k0_pay6 acc b))))))
      (setSlot 3#32 (topMax (maskMax (maskMax (maskMax (k0_pay6 acc b)))))
      (setSlot 2#32 (topMax (maskMax (maskMax (k0_pay6 acc b))))
      (setSlot 1#32 (topMax (maskMax (k0_pay6 acc b)))
      (setSlot 0#32 (topMax (k0_pay6 acc b)) (broadcast S1x128 (Scalar.ofBits .f32 0x00000000#32))))))))))))
      shapeCasts_S1x128_S1x128 := rfl

end generic

/-! ## At the ideal values -/

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- The score at column `n`. -/
abbrev at' (x : FVec Ideal S1x4096 .f32) (n : Fin 4096) : EReal := x (ix2 0 n)

theorem topMax_eq (x : FVec Ideal S1x4096 .f32) :
    topMax x = (Finset.univ : Finset (Fin 1 × Fin 4096)).fold max ⊥ (fun p => at' x p.2) := by
  rw [← ofBits_negInf]
  unfold topMax
  simp only [pointwise]

theorem botMin_eq (x : FVec Ideal S1x4096 .f32) :
    botMin x = (Finset.univ : Finset (Fin 1 × Fin 4096)).fold min ⊤ (fun p => at' x p.2) := by
  rw [← ofBits_posInf]
  unfold botMin
  simp only [pointwise]

theorem firstAt_eq (x : FVec Ideal S1x4096 .f32) (M : EReal) :
    firstAt x M = (Finset.univ : Finset (Fin 1 × Fin 4096)).fold IntOp.minsi 2147483647#32
      (fun p => if at' x p.2 = M then BitVec.ofNat 32 p.2.val else 4096#32) := by
  unfold firstAt
  simp only [pointwise]
  refine congrArg (fun f => Finset.fold IntOp.minsi 2147483647#32 f (Finset.univ : Finset (Fin 1 × Fin 4096))) (funext fun p => ?_)
  congr 2
  show 0 * 4096 + p.2.val = p.2.val
  omega

theorem overwrite_apply (x : FVec Ideal S1x4096 .f32) (i w : BitVec 32) (n : Fin 4096) :
    at' (overwrite x i w) n = if BitVec.ofNat 32 n.val = i then Ideal.ofBits .f32 w else at' x n := by
  unfold overwrite at'
  simp only [pointwise]
  have e : List.foldl (fun n_1 a => n_1 * (![1, 4096] : Fin 2 → Nat) a + (ix2 (0 : Fin 1) n a).val) 0 [1] = n.val := by
    show 0 * 4096 + n.val = n.val
    omega
  rw [e]
  unfold Scalar.select IntOp.cmpi
  by_cases h : BitVec.ofNat 32 n.val = i
  · simp [h]
  · rw [beq_eq_false_iff_ne.mpr h, if_neg h]
    rfl

/-- The greatest score bounds every score and is attained. -/
theorem topMax_spec (x : FVec Ideal S1x4096 .f32) : (∀ n, at' x n ≤ topMax x) ∧ ∃ n, at' x n = topMax x := by
  have hle : ∀ n, at' x n ≤ topMax x := fun n => by
    rw [topMax_eq, Finset.le_fold_max]
    exact .inr ⟨(0, n), Finset.mem_univ _, le_rfl⟩
  refine ⟨hle, ?_⟩
  have h : topMax x ≤ topMax x := le_rfl
  nth_rewrite 2 [topMax_eq] at h
  rw [Finset.le_fold_max] at h
  rcases h with h | ⟨p, -, h⟩
  · exact ⟨0, le_antisymm (hle 0) (h.trans bot_le)⟩
  · exact ⟨p.2, le_antisymm (hle p.2) h⟩

/-- The least score is below every score and is attained. -/
theorem botMin_spec (x : FVec Ideal S1x4096 .f32) : (∀ n, botMin x ≤ at' x n) ∧ ∃ n, at' x n = botMin x := by
  have hle : ∀ n, botMin x ≤ at' x n := fun n => by
    rw [botMin_eq, Finset.fold_min_le]
    exact .inr ⟨(0, n), Finset.mem_univ _, le_rfl⟩
  refine ⟨hle, ?_⟩
  have h : botMin x ≤ botMin x := le_rfl
  nth_rewrite 1 [botMin_eq] at h
  rw [Finset.fold_min_le] at h
  rcases h with h | ⟨p, -, h⟩
  · exact ⟨0, le_antisymm (le_top.trans h) (hle 0)⟩
  · exact ⟨p.2, le_antisymm h (hle p.2)⟩

theorem toInt_minsi (x y : BitVec 32) : (IntOp.minsi x y).toInt = min x.toInt y.toInt := by
  unfold IntOp.minsi
  split_ifs with h
  · rw [BitVec.slt_iff_toInt_lt] at h; omega
  · rw [BitVec.slt_iff_toInt_lt] at h; omega

/-- Where the value `M` is attained, the first column at which it is attained is one such column. -/
theorem firstAt_spec (x : FVec Ideal S1x4096 .f32) (M : EReal) (h : ∃ n, at' x n = M) :
    ∃ n : Fin 4096, at' x n = M ∧ firstAt x M = BitVec.ofNat 32 n.val := by
  have small : ∀ n : Fin 4096, (BitVec.ofNat 32 n.val).toInt = n.val := fun n => by
    have := n.isLt
    rw [BitVec.toInt_eq_toNat_of_lt (by rw [BitVec.toNat_ofNat]; omega), BitVec.toNat_ofNat]
    omega
  obtain ⟨k, hk⟩ := h
  have hlt : (firstAt x M).toInt < 4096 := by
    rw [firstAt_eq]
    have hr : ∀ {a b c : BitVec 32}, (IntOp.minsi b c).toInt ≤ a.toInt ↔ b.toInt ≤ a.toInt ∨ c.toInt ≤ a.toInt := by
      intro a b c
      rw [toInt_minsi]; exact min_le_iff
    have := (Finset.fold_op_rel_iff_or (op := IntOp.minsi) (r := fun a b : BitVec 32 => b.toInt ≤ a.toInt) hr
      (s := (Finset.univ : Finset (Fin 1 × Fin 4096))) (b := 2147483647#32) (c := BitVec.ofNat 32 k.val)
      (f := fun p => if at' x p.2 = M then BitVec.ofNat 32 p.2.val else 4096#32)).mpr
      (.inr ⟨(0, k), Finset.mem_univ _, by simp [hk]⟩)
    have hk' := small k
    have := k.isLt
    omega
  have hr : ∀ {a b c : BitVec 32}, (IntOp.minsi b c).toInt ≤ a.toInt ↔ b.toInt ≤ a.toInt ∨ c.toInt ≤ a.toInt := by
    intro a b c
    rw [toInt_minsi]; exact min_le_iff
  have hr' : ∀ {a b c : BitVec 32}, a.toInt ≤ (IntOp.minsi b c).toInt ↔ a.toInt ≤ b.toInt ∧ a.toInt ≤ c.toInt := by
    intro a b c
    rw [toInt_minsi]; exact le_min_iff
  have lower := (Finset.fold_op_rel_iff_and (op := IntOp.minsi) (r := fun a b : BitVec 32 => a.toInt ≤ b.toInt) hr'
      (s := (Finset.univ : Finset (Fin 1 × Fin 4096))) (b := 2147483647#32) (c := firstAt x M)
      (f := fun p => if at' x p.2 = M then BitVec.ofNat 32 p.2.val else 4096#32)).mp (by rw [← firstAt_eq])
  have upper := (Finset.fold_op_rel_iff_or (op := IntOp.minsi) (r := fun a b : BitVec 32 => b.toInt ≤ a.toInt) hr
      (s := (Finset.univ : Finset (Fin 1 × Fin 4096))) (b := 2147483647#32) (c := firstAt x M)
      (f := fun p => if at' x p.2 = M then BitVec.ofNat 32 p.2.val else 4096#32)).mp (by rw [← firstAt_eq])
  rcases upper with hb | ⟨p, -, hp⟩
  · have : (2147483647#32 : BitVec 32).toInt = 2147483647 := by decide
    omega
  · have lp := lower.2 p (Finset.mem_univ _)
    by_cases hM : at' x p.2 = M
    · simp only [hM, if_true] at hp lp
      exact ⟨p.2, hM, BitVec.eq_of_toInt_eq (le_antisymm lp hp)⟩
    · simp only [hM, if_false] at hp
      have : (4096#32 : BitVec 32).toInt = 4096 := by decide
      omega

theorem ofNat_inj (n k : Fin 4096) : BitVec.ofNat 32 n.val = BitVec.ofNat 32 k.val ↔ n = k := by
  have := n.isLt; have := k.isLt
  constructor
  · intro h
    have := congrArg BitVec.toNat h
    rw [BitVec.toNat_ofNat, BitVec.toNat_ofNat] at this
    exact Fin.ext (by omega)
  · rintro rfl; rfl

/-- Taking the greatest score out is a step of the scan. -/
theorem step_max (x : FVec Ideal S1x4096 .f32) : Ranks.Step (at' x) (at' (maskMax x)) (topMax x) := by
  obtain ⟨hle, hex⟩ := topMax_spec x
  obtain ⟨i, hi, hf⟩ := firstAt_spec x _ hex
  refine ⟨hle, i, hi, ?_, fun j hj => ?_⟩
  · unfold maskMax
    rw [overwrite_apply, hf, if_pos rfl, ofBits_negInf]
  · unfold maskMax
    rw [overwrite_apply, hf, if_neg (fun h => hj ((ofNat_inj _ _).mp h))]

/-- Taking the least score out is a step of the scan of the negated scores. -/
theorem step_min (x : FVec Ideal S1x4096 .f32) :
    Ranks.Step (fun n => -at' x n) (fun n => -at' (maskMin x) n) (-botMin x) := by
  obtain ⟨hle, hex⟩ := botMin_spec x
  obtain ⟨i, hi, hf⟩ := firstAt_spec x _ hex
  refine ⟨fun n => EReal.neg_le_neg_iff.mpr (hle n), i, congrArg Neg.neg hi, ?_, fun j hj => congrArg Neg.neg ?_⟩
  · unfold maskMin
    dsimp only
    rw [overwrite_apply, hf, if_pos rfl, ofBits_posInf, EReal.neg_top]
  · unfold maskMin
    rw [overwrite_apply, hf, if_neg (fun h => hj ((ofNat_inj _ _).mp h))]

/-- The `k`-th greatest score taken out is the score at position `k` of any descending arrangement. -/
theorem topMax_iter (x : FVec Ideal S1x4096 .f32) (σ : Fin 4096 → Fin 4096) (hσ : Function.Injective σ)
    (hs : ∀ i j, i < j → at' x (σ j) ≤ at' x (σ i)) (k : Fin 4096) : topMax (maskMax^[k.val] x) = at' x (σ k) :=
  Ranks.step_eq_sorted (x := fun k => at' (maskMax^[k] x)) (M := fun k => topMax (maskMax^[k] x)) (K := 4096)
    (fun k _ => by
      have := step_max (maskMax^[k] x)
      rwa [← Function.iterate_succ_apply' maskMax k x] at this) σ hσ hs k k.isLt

/-- The `k`-th least score taken out, likewise from the negated scores. -/
theorem botMin_iter (x : FVec Ideal S1x4096 .f32) (σ : Fin 4096 → Fin 4096) (hσ : Function.Injective σ)
    (hs : ∀ i j, i < j → -at' x (σ j) ≤ -at' x (σ i)) (k : Fin 4096) : botMin (maskMin^[k.val] x) = at' x (σ k) := by
  have := Ranks.step_eq_sorted (x := fun k n => -at' (maskMin^[k] x) n) (M := fun k => -botMin (maskMin^[k] x)) (K := 4096)
    (fun k _ => by
      have := step_min (maskMin^[k] x)
      rwa [← Function.iterate_succ_apply' maskMin k x] at this) σ hσ hs k k.isLt
  exact neg_injective this

/-- An entry of the evidence row after a slot is set. -/
theorem setSlot_apply (k : ℕ) (hk : k < 128) (v : EReal) (r : FVec Ideal S1x128 .f32) (n : Fin 128) :
    setSlot (F := Ideal) (BitVec.ofNat 32 k) v r (ix2 0 n) = if n.val = k then v else r (ix2 0 n) := by
  unfold setSlot
  simp only [pointwise]
  have e : List.foldl (fun n_1 a => n_1 * (![1, 128] : Fin 2 → Nat) a + (ix2 (0 : Fin 1) n a).val) 0 [1] = n.val := by
    show 0 * 128 + n.val = n.val
    omega
  rw [e]
  have : (BitVec.ofNat 32 n.val = BitVec.ofNat 32 k) ↔ n.val = k := by
    have := n.isLt
    constructor
    · intro h
      have := congrArg BitVec.toNat h
      rw [BitVec.toNat_ofNat, BitVec.toNat_ofNat] at this
      omega
    · rintro rfl; rfl
  unfold Scalar.select IntOp.cmpi
  by_cases h : n.val = k
  · simp [h]
  · rw [beq_eq_false_iff_ne.mpr (fun e => h (this.mp e)), if_neg h]
    rfl

/-- The evidence row, entry by entry. -/
theorem evRow_apply (acc : Vec Ideal S1x4096 .f32) (b : Vec Ideal S1x1 .f32) (n : Fin 128) :
    evRow acc b (ix2 0 n) = if n.val < 5 then topMax (maskMax^[n.val] (k0_pay6 acc b))
      else if n.val < 10 then botMin (maskMin^[n.val - 5] (k0_pay6 acc b)) else 0 := by
  rw [evRow_eq]
  generalize k0_pay6 acc b = x
  simp only [pointwise]
  rw [setSlot_apply 9 (by omega), setSlot_apply 8 (by omega), setSlot_apply 7 (by omega), setSlot_apply 6 (by omega),
    setSlot_apply 5 (by omega), setSlot_apply 4 (by omega), setSlot_apply 3 (by omega), setSlot_apply 2 (by omega),
    setSlot_apply 1 (by omega), setSlot_apply 0 (by omega)]
  rcases n with ⟨n, hn⟩
  dsimp only
  by_cases h : n < 10
  · interval_cases n <;> simp [Function.iterate_succ_apply']
  · simp only [show n ≠ 9 by omega, show n ≠ 8 by omega, show n ≠ 7 by omega, show n ≠ 6 by omega, show n ≠ 5 by omega,
      show n ≠ 4 by omega, show n ≠ 3 by omega, show n ≠ 2 by omega, show n ≠ 1 by omega, show n ≠ 0 by omega,
      show ¬ n < 5 by omega, show ¬ n < 10 by omega, if_false, pointwise]

end Cert.KernelIdeal.Extract

end
-- ==== Proof.Padded.lean ====
/-
  The weights and biases enlarged by zeros: each is written into the corner of an array of zeros, so an entry inside the
  corner is the weight and an entry outside is zero.
-/
module

public import proofs.«01_k».proof.Proof.Gen.KernelIdeal
public import Idealize.ShloMosaic.Lib.Pointwise
public import Idealize.ShloMosaic.Lib.Routing.OpsSet

@[expose] public section

set_option maxRecDepth 16384

noncomputable section

namespace Cert.KernelIdeal.Padded

open Idealize.ShloMosaic
open Cert.KernelIdeal Cert.KernelIdeal.Gen

/-- The corner's position: row 0, column 0. -/
def corner : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

theorem corner_apply (i : S2.Idx) : corner i = 0#32 := by
  obtain ⟨k, rfl⟩ : ∃ k : Fin 2, i = ix1 k := ⟨i 0, by funext a; match a with | ⟨0, _⟩ => rfl⟩
  unfold corner
  simp only [pointwise]
  split <;> rfl

/-- An update starts at the corner. -/
theorem start_zero {s si u : Shape} (d : ScatterDims s si u) (k : u.Idx) (idx : IVec si 32) (h : ∀ i, idx i = 0#32)
    (a : Fin s.rank) : d.start k idx a = 0 := by
  unfold ScatterDims.start
  split
  · rw [h]; rfl
  · rfl

/-- Where an update lands. -/
theorem lands {s u : Shape} (d : ScatterDims s S2 u) (k : u.Idx) (i : s.Idx) :
    d.resultIdx? k corner = some i ↔ ∀ a, d.window k a = (i a).val := by
  rw [Routing.resultIdx?_eq_some]
  refine forall_congr' fun a => ?_
  rw [start_zero d k corner corner_apply a]
  omega

/-- A matrix written into the corner of a larger one. -/
theorem corner_matrix {α : Type} {R C r0 c0 : Nat} (d : ScatterDims ⟨2, ![R, C]⟩ S2 ⟨2, ![r0, c0]⟩)
    (h0 : ∀ k, d.window k 0 = (k 0).val) (h1 : ∀ k, d.window k 1 = (k 1).val)
    (x : (⟨2, ![R, C]⟩ : Shape).Idx → α) (u : (⟨2, ![r0, c0]⟩ : Shape).Idx → α) (r : Fin R) (c : Fin C) :
    Host.scatter d (fun _ b => b) x corner u (ix2 r c)
      = if h : r.val < r0 ∧ c.val < c0 then u (ix2 ⟨r.val, h.1⟩ ⟨c.val, h.2⟩) else x (ix2 r c) := by
  have key : ∀ k : (⟨2, ![r0, c0]⟩ : Shape).Idx, d.resultIdx? k corner = some (ix2 r c) ↔ (k 0).val = r.val ∧ (k 1).val = c.val := by
    intro k
    rw [lands]
    constructor
    · intro h; exact ⟨(h0 k).symm.trans (h 0), (h1 k).symm.trans (h 1)⟩
    · intro h a
      match a with
      | ⟨0, _⟩ => exact (h0 k).trans h.1
      | ⟨1, _⟩ => exact (h1 k).trans h.2
  split
  · next h =>
    refine Routing.scatter_set_hit d x corner u (ix2 r c) _ (fun k hk => ?_) (ix2 ⟨r.val, h.1⟩ ⟨c.val, h.2⟩) ((key _).mpr ⟨rfl, rfl⟩)
    have hk' := (key k).mp hk
    refine congrArg u (funext fun a => Fin.ext ?_)
    match a with
    | ⟨0, _⟩ => exact hk'.1
    | ⟨1, _⟩ => exact hk'.2
  · next h =>
    refine Routing.scatter_set_miss d x corner u (ix2 r c) (fun k hk => h ?_)
    have hk' := (key k).mp hk
    exact ⟨hk'.1 ▸ (k 0).isLt, hk'.2 ▸ (k 1).isLt⟩

/-- A vector written into the start of a longer row. -/
theorem corner_row {α : Type} {C c0 : Nat} (d : ScatterDims ⟨2, ![1, C]⟩ S2 ⟨1, ![c0]⟩)
    (h0 : ∀ k, d.window k 0 = 0) (h1 : ∀ k, d.window k 1 = (k 0).val)
    (x : (⟨2, ![1, C]⟩ : Shape).Idx → α) (u : (⟨1, ![c0]⟩ : Shape).Idx → α) (c : Fin C) :
    Host.scatter d (fun _ b => b) x corner u (ix2 0 c)
      = if h : c.val < c0 then u (ix1 ⟨c.val, h⟩) else x (ix2 0 c) := by
  have key : ∀ k : (⟨1, ![c0]⟩ : Shape).Idx, d.resultIdx? k corner = some (ix2 0 c) ↔ (k 0).val = c.val := by
    intro k
    rw [lands]
    constructor
    · intro h; exact (h1 k).symm.trans (h 1)
    · intro h a
      match a with
      | ⟨0, _⟩ => exact h0 k
      | ⟨1, _⟩ => exact (h1 k).trans h
  split
  · next h =>
    refine Routing.scatter_set_hit d x corner u (ix2 0 c) _ (fun k hk => ?_) (ix1 ⟨c.val, h⟩) ((key _).mpr rfl)
    have hk' := (key k).mp hk
    refine congrArg u (funext fun a => Fin.ext ?_)
    match a with
    | ⟨0, _⟩ => exact hk'
  · next h =>
    refine Routing.scatter_set_miss d x corner u (ix2 0 c) (fun k hk => h ?_)
    have hk' := (key k).mp hk
    exact hk' ▸ (k 0).isLt

section generic
variable {F : FTy → Type} [FloatOps F]

/-- The first layer's weights, transposed and enlarged. -/
def padW1 (w : FVec F S200x10 .f32) : FVec F S128x256 .f32 :=
  Host.scatter scatter_S128x256_S2_S10x200_01_n_01_0 (fun _ b => b)
    (broadcastInDim S128x256 ![] bcast_S_S128x256 (constant S_ .f32 0x00000000#32)) corner
    (transpose S10x200 [1, 0] w transposes_S200x10_S10x200_1_0)

/-- The first layer's bias, enlarged. -/
def padB1 (b : FVec F S200 .f32) : FVec F S1x256 .f32 :=
  Host.scatter scatter_S1x256_S2_S200_0_0_01_0 (fun _ b => b)
    (broadcastInDim S1x256 ![] bcast_S_S1x256 (constant S_ .f32 0x00000000#32)) corner b

/-- The second layer's weights, transposed and enlarged. -/
def padW2 (w : FVec F S100x200 .f32) : FVec F S256x128 .f32 :=
  Host.scatter scatter_S256x128_S2_S200x100_01_n_01_0 (fun _ b => b)
    (broadcastInDim S256x128 ![] bcast_S_S256x128 (constant S_ .f32 0x00000000#32)) corner
    (transpose S200x100 [1, 0] w transposes_S100x200_S200x100_1_0)

/-- The second layer's bias, enlarged. -/
def padB2 (b : FVec F S100 .f32) : FVec F S1x128 .f32 :=
  Host.scatter scatter_S1x128_S2_S100_0_0_01_0 (fun _ b => b)
    (broadcastInDim S1x128 ![] bcast_S_S1x128 (constant S_ .f32 0x00000000#32)) corner b

/-- The last layer's weights, transposed and enlarged. -/
def padW3 (w : FVec F S1x100 .f32) : FVec F S128x128 .f32 :=
  Host.scatter scatter_S128x128_S2_S100x1_01_n_01_0 (fun _ b => b)
    (broadcastInDim S128x128 ![] bcast_S_S128x128 (constant S_ .f32 0x00000000#32)) corner
    (transpose S100x1 [1, 0] w transposes_S1x100_S100x1_1_0)

/-- The last layer's bias, enlarged. -/
def padB3 (b : FVec F S1 .f32) : FVec F S1x128 .f32 :=
  Host.scatter scatter_S1x128_S2_S1_0_0_01_0 (fun _ b => b)
    (broadcastInDim S1x128 ![] bcast_S_S1x128 (constant S_ .f32 0x00000000#32)) corner b

end generic

theorem padW1_apply (w : FVec Ideal S200x10 .f32) (r : Fin 128) (c : Fin 256) :
    padW1 w (ix2 r c) = if h : r.val < 10 ∧ c.val < 200 then w (ix2 ⟨c.val, h.2⟩ ⟨r.val, h.1⟩) else 0 := by
  unfold padW1
  rw [corner_matrix _ (fun k => rfl) (fun k => rfl)]
  simp only [pointwise]

theorem padB1_apply (b : FVec Ideal S200 .f32) (c : Fin 256) :
    padB1 b (ix2 0 c) = if h : c.val < 200 then b (ix1 ⟨c.val, h⟩) else 0 := by
  unfold padB1
  rw [corner_row _ (fun k => rfl) (fun k => rfl)]
  simp only [pointwise]

theorem padW2_apply (w : FVec Ideal S100x200 .f32) (r : Fin 256) (c : Fin 128) :
    padW2 w (ix2 r c) = if h : r.val < 200 ∧ c.val < 100 then w (ix2 ⟨c.val, h.2⟩ ⟨r.val, h.1⟩) else 0 := by
  unfold padW2
  rw [corner_matrix _ (fun k => rfl) (fun k => rfl)]
  simp only [pointwise]

theorem padB2_apply (b : FVec Ideal S100 .f32) (c : Fin 128) :
    padB2 b (ix2 0 c) = if h : c.val < 100 then b (ix1 ⟨c.val, h⟩) else 0 := by
  unfold padB2
  rw [corner_row _ (fun k => rfl) (fun k => rfl)]
  simp only [pointwise]

theorem padW3_apply (w : FVec Ideal S1x100 .f32) (r : Fin 128) (c : Fin 128) :
    padW3 w (ix2 r c) = if h : r.val < 100 ∧ c.val < 1 then w (ix2 0 ⟨r.val, h.1⟩) else 0 := by
  unfold padW3
  rw [corner_matrix _ (fun k => rfl) (fun k => rfl)]
  simp only [pointwise]

theorem padB3_apply (b : FVec Ideal S1 .f32) (c : Fin 128) :
    padB3 b (ix2 0 c) = if h : c.val < 1 then b (ix1 ⟨c.val, h⟩) else 0 := by
  unfold padB3
  rw [corner_row _ (fun k => rfl) (fun k => rfl)]
  simp only [pointwise]

end Cert.KernelIdeal.Padded

end
-- ==== Proof.Arrays.lean ====
/-
  What the region finds in the arrays the host operations wrote: the channel weights and the channel bias reshaped, and
  the enlarged weights of the three layers.
-/
module

public import proofs.«01_k».proof.Proof.Region
public import proofs.«01_k».proof.Proof.Padded
public import Idealize.ShloMosaic.Lib.StableHlo.Run

@[expose] public section

set_option maxRecDepth 16384

noncomputable section

namespace Cert.KernelIdeal.Blocks

open Idealize.ShloMosaic Idealize.ShloMosaic.TcCoe Idealize.ShloMosaic.Tactic Idealize.ShloMosaic.Pipeline
open Cert.KernelIdeal Cert.KernelIdeal.Gen Cert.KernelIdeal.Body Cert.KernelIdeal.Padded

variable {F : FTy → Type} [FloatOps F]
variable (m : (ℓ : Loc nD τ sig) → Buf (Elt F) ℓ)

/-- The region finds the channel weights as a column. -/
theorem V_main_v0 (c : Dev nD) : V m c main_v0 = shapeCast S2048x1 (m ((c : Thread nD τ).loc main_arg1)) shapeCasts_S2048_S2048x1 := by
  show StableHlo.after hostOps0 _ (Proc.devRef .tc main_v0) = _
  after_results
  rfl

/-- The region finds the channel bias as a table of one entry. -/
theorem V_main_v1 (c : Dev nD) : V m c main_v1 = shapeCast S1x1 (m ((c : Thread nD τ).loc main_arg2)) shapeCasts_S1_S1x1 := by
  show StableHlo.after hostOps0 _ (Proc.devRef .tc main_v1) = _
  after_results
  rfl

/-- The region finds the first layer's weights. -/
theorem V_main_v7 (c : Dev nD) : V m c main_v7 = padW1 (m ((c : Thread nD τ).loc main_arg3)) := by
  show StableHlo.after hostOps0 _ (Proc.devRef .tc main_v7) = _
  after_results
  rfl

/-- The region finds the first layer's bias. -/
theorem V_main_v12 (c : Dev nD) : V m c main_v12 = padB1 (m ((c : Thread nD τ).loc main_arg4)) := by
  show StableHlo.after hostOps0 _ (Proc.devRef .tc main_v12) = _
  after_results
  rfl

/-- The region finds the second layer's weights. -/
theorem V_main_v18 (c : Dev nD) : V m c main_v18 = padW2 (m ((c : Thread nD τ).loc main_arg5)) := by
  show StableHlo.after hostOps0 _ (Proc.devRef .tc main_v18) = _
  after_results
  rfl

/-- The region finds the second layer's bias. -/
theorem V_main_v23 (c : Dev nD) : V m c main_v23 = padB2 (m ((c : Thread nD τ).loc main_arg6)) := by
  show StableHlo.after hostOps0 _ (Proc.devRef .tc main_v23) = _
  after_results
  rfl

/-- The region finds the last layer's weights. -/
theorem V_main_v29 (c : Dev nD) : V m c main_v29 = padW3 (m ((c : Thread nD τ).loc main_arg7)) := by
  show StableHlo.after hostOps0 _ (Proc.devRef .tc main_v29) = _
  after_results
  rfl

/-- The region finds the last layer's bias. -/
theorem V_main_v34 (c : Dev nD) : V m c main_v34 = padB3 (m ((c : Thread nD τ).loc main_arg8)) := by
  show StableHlo.after hostOps0 _ (Proc.devRef .tc main_v34) = _
  after_results
  rfl

end Cert.KernelIdeal.Blocks

end
-- ==== Proof.Blocks.lean ====
/-
  Each window's block at a grid point, read at an index: the two halves of a sample's channel block, the block of channel
  weights, and the arrays staged whole.
-/
module

public import proofs.«01_k».proof.Proof.Arrays
public import Idealize.ShloMosaic.Lib.StableHlo.Run

@[expose] public section

set_option maxRecDepth 16384

noncomputable section

namespace Cert.KernelIdeal.Blocks

open Idealize.ShloMosaic Idealize.ShloMosaic.TcCoe Idealize.ShloMosaic.Tactic Idealize.ShloMosaic.Pipeline
open Cert.KernelIdeal Cert.KernelIdeal.Gen Cert.KernelIdeal.Body Cert.KernelIdeal.Padded

variable {F : FTy → Type} [FloatOps F]
variable (m : (ℓ : Loc nD τ sig) → Buf (Elt F) ℓ)

theorem index0 : ∀ t : Fin cfg0.N, win0_0.index t 0 = t.val / 4 ∧ win0_0.index t 1 = t.val % 4 ∧ win0_0.index t 2 = 0 := by
  decide +kernel
theorem index1 : ∀ t : Fin cfg0.N, win0_1.index t 0 = t.val / 4 ∧ win0_1.index t 1 = t.val % 4 ∧ win0_1.index t 2 = 1 := by
  decide +kernel
theorem index2 : ∀ t : Fin cfg0.N, win0_2.index t 0 = t.val % 4 ∧ win0_2.index t 1 = 0 := by
  decide +kernel

theorem t_lt (t : Fin cfg0.N) : t.val < 32 := lt_of_lt_of_eq t.isLt N_0

/-- The lower half of the tiles. -/
theorem iblk0_apply (c : Dev nD) (t : Fin cfg0.N) (k : Fin 512) (n : Fin 2048) :
    (iblk m c 0 t : Vec F S1x512x2048 .f32) (ix3 0 k n)
      = (m ((c : Thread nD τ).loc main_arg0) : Vec F S8x2048x4096 .f32)
          (ix3 ⟨t.val / 4, by have := t_lt t; omega⟩ ⟨512 * (t.val % 4) + k.val, by have := t_lt t; omega⟩ ⟨n.val, by omega⟩) := by
  have hi := index0 t
  unfold iblk
  rw [View.read_apply]
  show V m c main_arg0 _ = _
  rw [V_main_arg0]
  refine congrArg _ (funext fun a => Fin.ext ?_)
  match a with
  | ⟨0, _⟩ => show win0_0.index t 0 * 1 + 1 * 0 = t.val / 4; rw [hi.1]; omega
  | ⟨1, _⟩ => show win0_0.index t 1 * 512 + 1 * k.val = 512 * (t.val % 4) + k.val; rw [hi.2.1]; omega
  | ⟨2, _⟩ => show win0_0.index t 2 * 2048 + 1 * n.val = n.val; rw [hi.2.2]; omega

/-- The upper half of the tiles. -/
theorem iblk1_apply (c : Dev nD) (t : Fin cfg0.N) (k : Fin 512) (n : Fin 2048) :
    (iblk m c 1 t : Vec F S1x512x2048 .f32) (ix3 0 k n)
      = (m ((c : Thread nD τ).loc main_arg0) : Vec F S8x2048x4096 .f32)
          (ix3 ⟨t.val / 4, by have := t_lt t; omega⟩ ⟨512 * (t.val % 4) + k.val, by have := t_lt t; omega⟩ ⟨2048 + n.val, by omega⟩) := by
  have hi := index1 t
  unfold iblk
  rw [View.read_apply]
  show V m c main_arg0 _ = _
  rw [V_main_arg0]
  refine congrArg _ (funext fun a => Fin.ext ?_)
  match a with
  | ⟨0, _⟩ => show win0_1.index t 0 * 1 + 1 * 0 = t.val / 4; rw [hi.1]; omega
  | ⟨1, _⟩ => show win0_1.index t 1 * 512 + 1 * k.val = 512 * (t.val % 4) + k.val; rw [hi.2.1]; omega
  | ⟨2, _⟩ => show win0_1.index t 2 * 2048 + 1 * n.val = 2048 + n.val; rw [hi.2.2]; omega

/-- The channel weights. -/
theorem iblk2_apply (c : Dev nD) (t : Fin cfg0.N) (k : Fin 512) :
    (iblk m c 2 t : Vec F S512x1 .f32) (ix2 k 0)
      = (m ((c : Thread nD τ).loc main_arg1) : Vec F S2048 .f32) (ix1 ⟨512 * (t.val % 4) + k.val, by have := t_lt t; omega⟩) := by
  have hi := index2 t
  have hx : (((cfg0.win 2).blk t).view.emb (ix2 k 0) : S2048x1.Idx)
      = ix2 ⟨512 * (t.val % 4) + k.val, by have := t_lt t; omega⟩ 0 := by
    refine funext fun a => Fin.ext ?_
    match a with
    | ⟨0, _⟩ => show win0_2.index t 0 * 512 + 1 * k.val = 512 * (t.val % 4) + k.val; rw [hi.1]; omega
    | ⟨1, _⟩ => show win0_2.index t 1 * 1 + 1 * 0 = 0; rw [hi.2]
  unfold iblk
  rw [View.read_apply]
  show V m c main_v0 _ = _
  rw [V_main_v0]
  refine (congrArg _ hx).trans ?_
  simp only [pointwise]

theorem index3 : ∀ t : Fin cfg0.N, win0_3.index t 0 = 0 ∧ win0_3.index t 1 = 0 := by
  decide +kernel

/-- Window 3 stages its array whole. -/
theorem iblk3_eq (c : Dev nD) (t : Fin cfg0.N) : (iblk m c 3 t : Vec F S1x1 .f32) = V m c main_v1 := by
  have hi := index3 t
  funext j
  unfold iblk
  rw [View.read_apply]
  show V m c main_v1 _ = _
  refine congrArg _ (funext fun a => Fin.ext ?_)
  match a with
  | ⟨0, _⟩ => show win0_3.index t 0 * 1 + 1 * (j 0).val = (j 0).val; rw [hi.1]; omega
  | ⟨1, _⟩ => show win0_3.index t 1 * 1 + 1 * (j 1).val = (j 1).val; rw [hi.2]; omega

theorem index4 : ∀ t : Fin cfg0.N, win0_4.index t 0 = 0 ∧ win0_4.index t 1 = 0 := by
  decide +kernel

/-- Window 4 stages its array whole. -/
theorem iblk4_eq (c : Dev nD) (t : Fin cfg0.N) : (iblk m c 4 t : Vec F S128x256 .f32) = V m c main_v7 := by
  have hi := index4 t
  funext j
  unfold iblk
  rw [View.read_apply]
  show V m c main_v7 _ = _
  refine congrArg _ (funext fun a => Fin.ext ?_)
  match a with
  | ⟨0, _⟩ => show win0_4.index t 0 * 128 + 1 * (j 0).val = (j 0).val; rw [hi.1]; omega
  | ⟨1, _⟩ => show win0_4.index t 1 * 256 + 1 * (j 1).val = (j 1).val; rw [hi.2]; omega

theorem index5 : ∀ t : Fin cfg0.N, win0_5.index t 0 = 0 ∧ win0_5.index t 1 = 0 := by
  decide +kernel

/-- Window 5 stages its array whole. -/
theorem iblk5_eq (c : Dev nD) (t : Fin cfg0.N) : (iblk m c 5 t : Vec F S1x256 .f32) = V m c main_v12 := by
  have hi := index5 t
  funext j
  unfold iblk
  rw [View.read_apply]
  show V m c main_v12 _ = _
  refine congrArg _ (funext fun a => Fin.ext ?_)
  match a with
  | ⟨0, _⟩ => show win0_5.index t 0 * 1 + 1 * (j 0).val = (j 0).val; rw [hi.1]; omega
  | ⟨1, _⟩ => show win0_5.index t 1 * 256 + 1 * (j 1).val = (j 1).val; rw [hi.2]; omega

theorem index6 : ∀ t : Fin cfg0.N, win0_6.index t 0 = 0 ∧ win0_6.index t 1 = 0 := by
  decide +kernel

/-- Window 6 stages its array whole. -/
theorem iblk6_eq (c : Dev nD) (t : Fin cfg0.N) : (iblk m c 6 t : Vec F S256x128 .f32) = V m c main_v18 := by
  have hi := index6 t
  funext j
  unfold iblk
  rw [View.read_apply]
  show V m c main_v18 _ = _
  refine congrArg _ (funext fun a => Fin.ext ?_)
  match a with
  | ⟨0, _⟩ => show win0_6.index t 0 * 256 + 1 * (j 0).val = (j 0).val; rw [hi.1]; omega
  | ⟨1, _⟩ => show win0_6.index t 1 * 128 + 1 * (j 1).val = (j 1).val; rw [hi.2]; omega

theorem index7 : ∀ t : Fin cfg0.N, win0_7.index t 0 = 0 ∧ win0_7.index t 1 = 0 := by
  decide +kernel

/-- Window 7 stages its array whole. -/
theorem iblk7_eq (c : Dev nD) (t : Fin cfg0.N) : (iblk m c 7 t : Vec F S1x128 .f32) = V m c main_v23 := by
  have hi := index7 t
  funext j
  unfold iblk
  rw [View.read_apply]
  show V m c main_v23 _ = _
  refine congrArg _ (funext fun a => Fin.ext ?_)
  match a with
  | ⟨0, _⟩ => show win0_7.index t 0 * 1 + 1 * (j 0).val = (j 0).val; rw [hi.1]; omega
  | ⟨1, _⟩ => show win0_7.index t 1 * 128 + 1 * (j 1).val = (j 1).val; rw [hi.2]; omega

theorem index8 : ∀ t : Fin cfg0.N, win0_8.index t 0 = 0 ∧ win0_8.index t 1 = 0 := by
  decide +kernel

/-- Window 8 stages its array whole. -/
theorem iblk8_eq (c : Dev nD) (t : Fin cfg0.N) : (iblk m c 8 t : Vec F S128x128 .f32) = V m c main_v29 := by
  have hi := index8 t
  funext j
  unfold iblk
  rw [View.read_apply]
  show V m c main_v29 _ = _
  refine congrArg _ (funext fun a => Fin.ext ?_)
  match a with
  | ⟨0, _⟩ => show win0_8.index t 0 * 128 + 1 * (j 0).val = (j 0).val; rw [hi.1]; omega
  | ⟨1, _⟩ => show win0_8.index t 1 * 128 + 1 * (j 1).val = (j 1).val; rw [hi.2]; omega

theorem index9 : ∀ t : Fin cfg0.N, win0_9.index t 0 = 0 ∧ win0_9.index t 1 = 0 := by
  decide +kernel

/-- Window 9 stages its array whole. -/
theorem iblk9_eq (c : Dev nD) (t : Fin cfg0.N) : (iblk m c 9 t : Vec F S1x128 .f32) = V m c main_v34 := by
  have hi := index9 t
  funext j
  unfold iblk
  rw [View.read_apply]
  show V m c main_v34 _ = _
  refine congrArg _ (funext fun a => Fin.ext ?_)
  match a with
  | ⟨0, _⟩ => show win0_9.index t 0 * 1 + 1 * (j 0).val = (j 0).val; rw [hi.1]; omega
  | ⟨1, _⟩ => show win0_9.index t 1 * 128 + 1 * (j 1).val = (j 1).val; rw [hi.2]; omega

end Cert.KernelIdeal.Blocks

end
-- ==== Proof.Spec.lean ====
/-
  The problem's function in plain words: a score for each of the 4096 tiles of a sample, the five greatest scores and the
  five least, and three affine layers on these ten numbers.  Both programs are shown to compute it.
-/
module

public import Idealize.ShloMosaic.PureOps.Ideal
public import Idealize.ShloMosaic.PureOps.Ideal.Laws
public import Idealize.ShloMosaic.Lib.Pointwise
public import Idealize.ShloMosaic.Lib.SortFacts

@[expose] public section

set_option maxRecDepth 16384

noncomputable section

namespace Cert.Spec

open Idealize.ShloMosaic

/-- The weights of the three layers and their biases. -/
structure Layers where
  w1 : Fin 200 → Fin 10 → EReal
  b1 : Fin 200 → EReal
  w2 : Fin 100 → Fin 200 → EReal
  b2 : Fin 100 → EReal
  w3 : Fin 100 → EReal
  b3 : EReal

/-- The three layers read off the weights and biases as arrays. -/
def layers (w1 : FVec Ideal ⟨2, ![200, 10]⟩ .f32) (b1 : FVec Ideal ⟨1, ![200]⟩ .f32) (w2 : FVec Ideal ⟨2, ![100, 200]⟩ .f32)
    (b2 : FVec Ideal ⟨1, ![100]⟩ .f32) (w3 : FVec Ideal ⟨2, ![1, 100]⟩ .f32) (b3 : FVec Ideal ⟨1, ![1]⟩ .f32) : Layers where
  w1 i k := w1 (ix2 i k)
  b1 i := b1 (ix1 i)
  w2 i k := w2 (ix2 i k)
  b2 i := b2 (ix1 i)
  w3 k := w3 (ix2 0 k)
  b3 := b3 (ix1 0)

/-- A tile's score: its 2048 features weighted and summed, and the bias. -/
def score (x : Fin 2048 → Fin 4096 → EReal) (w : Fin 2048 → EReal) (b : EReal) (n : Fin 4096) : EReal :=
  (∑ k : Fin 2048, x k n * w k) + b

/-- Whether position `a` stands before position `b` when greater scores stand first. -/
def before (s : Fin 4096 → EReal) (a b : Fin 4096) : Bool :=
  FloatOps.cmpfTotal (F := Ideal) (φ := .f32) .gt (s a) (s b) == 1#1

/-- The position whose score has the given rank, the greatest score's rank being 0. -/
def ranked (s : Fin 4096 → EReal) : Fin 4096 → Fin 4096 := sortedFrom (before s)

theorem before_iff (s : Fin 4096 → EReal) (a b : Fin 4096) : before s a b = true ↔ s b < s a := by
  show (BitVec.ofBool (decide (s b < s a)) == 1#1) = true ↔ _
  by_cases h : s b < s a <;> simp [h]

theorem ranked_injective (s : Fin 4096 → EReal) : Function.Injective (ranked s) := sortedFrom_injective _

/-- A later rank has no greater score. -/
theorem ranked_antitone (s : Fin 4096 → EReal) (i j : Fin 4096) (h : i < j) : s (ranked s j) ≤ s (ranked s i) := by
  have hB := sortedFrom_noInversion (before s) (before s)
    (fun a b hab => by
      rw [before_iff] at hab
      rw [Bool.eq_false_iff, ne_eq, before_iff]
      exact not_lt.mpr hab.le)
    (fun a b hab => hab)
    (fun a b c hab hbc => by
      rw [Bool.eq_false_iff, ne_eq, before_iff, not_lt] at hab hbc ⊢
      first | exact le_trans hab hbc | exact le_trans hbc hab)
    i j h
  rw [Bool.eq_false_iff, ne_eq, before_iff, not_lt] at hB
  exact hB

/-- The ten pieces of evidence: the five greatest scores, then the five least. -/
def evidence (s : Fin 4096 → EReal) (f : Fin 10) : EReal :=
  if h : f.val < 5 then s (ranked s ⟨f.val, by omega⟩) else s (ranked (fun n => -s n) ⟨f.val - 5, by omega⟩)

/-- The first layer. -/
def hidden1 (L : Layers) (e : Fin 10 → EReal) (i : Fin 200) : EReal := max ((∑ k, e k * L.w1 i k) + L.b1 i) 0

/-- The second layer. -/
def hidden2 (L : Layers) (h : Fin 200 → EReal) (i : Fin 100) : EReal := max ((∑ k, h k * L.w2 i k) + L.b2 i) 0

/-- The last layer. -/
def output (L : Layers) (h : Fin 100 → EReal) : EReal := Ideal.logistic ((∑ k, h k * L.w3 k) + L.b3)

/-- The whole function of one sample. -/
def predict (L : Layers) (x : Fin 2048 → Fin 4096 → EReal) (w : Fin 2048 → EReal) (b : EReal) : EReal :=
  output L (hidden2 L (hidden1 L (evidence (score x w b))))

end Cert.Spec

end
-- ==== Proof.Scores.lean ====
/-
  The scores the kernel accumulates: after the four channel blocks of a sample the scratch row holds, for every tile, the
  weighted sum over all 2048 channels, and with the bias it is the tile's score.
-/
module

public import proofs.«01_k».proof.Proof.Blocks
public import proofs.«01_k».proof.Proof.Spec

@[expose] public section

set_option maxRecDepth 16384

noncomputable section

namespace Cert.KernelIdeal.Scores

open Idealize.ShloMosaic Idealize.ShloMosaic.TcCoe
open Cert.KernelIdeal Cert.KernelIdeal.Gen Cert.KernelIdeal.Body Cert.KernelIdeal.Blocks

/-- One channel block's share of a tile's score. -/
theorem pay1_apply (w : Vec Ideal S512x1 .f32) (x0 x1 : Vec Ideal S1x512x2048 .f32) (n : Fin 4096) :
    k0_pay1 w x0 x1 (ix2 0 n) = ∑ k : Fin 512,
      (if h : n.val < 2048 then x0 (ix3 0 k ⟨n.val, h⟩) else x1 (ix3 0 k ⟨n.val - 2048, by omega⟩)) * w (ix2 k 0) := by
  unfold k0_pay1
  simp only [pointwise]
  by_cases h : n.val < 2048
  · simp only [h, dite_true]
    rfl
  · simp only [h, dite_true, show ¬ (512 = 1) from by decide, dite_false, if_true]
    rfl

theorem sum_blocks (f : Fin 2048 → EReal) :
    ∑ k : Fin 2048, f k = (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩) := by
  have h : ∑ k : Fin 2048, f k = ∑ p : Fin 4 × Fin 512, f (finProdFinEquiv p) :=
    (Equiv.sum_comp (finProdFinEquiv (m := 4) (n := 512)) f).symm
  rw [h, Fintype.sum_prod_type, Fin.sum_univ_four]
  have e : ∀ (q : Fin 4) (k : Fin 512), (finProdFinEquiv (q, k) : Fin (4 * 512)) = ⟨512 * q.val + k.val, by omega⟩ := by
    intro q k
    apply Fin.ext
    show k.val + 512 * q.val = 512 * q.val + k.val
    omega
  simp only [e]
  refine congrArg₂ (· + ·) (congrArg₂ (· + ·) (congrArg₂ (· + ·) ?_ ?_) ?_) ?_ <;>
    exact Finset.sum_congr rfl fun k _ => congrArg f (Fin.ext (by simp <;> omega))

variable (m : (ℓ : Loc nD τ sig) → Buf (Elt Ideal) ℓ)

/-- The image as launched. -/
abbrev image (c : Dev nD) : FVec Ideal S8x2048x4096 .f32 := m ((c : Thread nD τ).loc main_arg0)
/-- The channel weights as launched. -/
abbrev chan (c : Dev nD) : FVec Ideal S2048 .f32 := m ((c : Thread nD τ).loc main_arg1)
/-- The channel bias as launched. -/
abbrev chanBias (c : Dev nD) : FVec Ideal S1 .f32 := m ((c : Thread nD τ).loc main_arg2)

/-- One channel's term of a tile's score. -/
def term (c : Dev nD) (b : Fin 8) (n : Fin 4096) (k : Fin 2048) : EReal := image m c (ix3 b k n) * chan m c (ix1 k)

/-- The share of the channel block staged at a grid point. -/
theorem share (c : Dev nD) (b : Fin 8) (q : ℕ) (hq : q < 4) (t : Fin cfg0.N) (ht : t.val = 4 * b.val + q) (n : Fin 4096) :
    k0_pay1 (iblk m c 2 t) (iblk m c 0 t) (iblk m c 1 t) (ix2 0 n)
      = ∑ k : Fin 512, term m c b n ⟨512 * q + k.val, by omega⟩ := by
  rw [pay1_apply]
  have hb : t.val / 4 = b.val := by omega
  have hr : t.val % 4 = q := by omega
  refine Finset.sum_congr rfl fun k _ => ?_
  rw [iblk2_apply m c t k]
  unfold term
  refine congrArg₂ (· * ·) ?_ (congrArg (chan m c) (congrArg ix1 (Fin.ext (by show 512 * (t.val % 4) + k.val = _; rw [hr]))))
  by_cases h : n.val < 2048
  · rw [dif_pos h, iblk0_apply m c t k]
    refine congrArg (image m c) (funext fun a => Fin.ext ?_)
    match a with
    | ⟨0, _⟩ => exact hb
    | ⟨1, _⟩ => show 512 * (t.val % 4) + k.val = _; rw [hr]; rfl
    | ⟨2, _⟩ => rfl
  · rw [dif_neg h, iblk1_apply m c t k]
    refine congrArg (image m c) (funext fun a => Fin.ext ?_)
    match a with
    | ⟨0, _⟩ => exact hb
    | ⟨1, _⟩ => show 512 * (t.val % 4) + k.val = _; rw [hr]; rfl
    | ⟨2, _⟩ => show 2048 + (n.val - 2048) = n.val; omega

theorem acc_first (c : Dev nD) (b : Fin 8) (n : Fin 4096) :
    accAt m c (4 * b.val) (ix2 0 n) = ∑ k : Fin 512, term m c b n ⟨512 * 0 + k.val, by omega⟩ := by
  have hv : (pt (4 * b.val)).val = 4 * b.val := Nat.mod_eq_of_lt (by omega)
  have e := accAt_first m c (pt (4 * b.val)) (by rw [hv]; omega)
  rw [hv] at e
  rw [e]
  unfold k0_pay2
  rw [shapeCast_self]
  exact share m c b 0 (by omega) _ hv n

theorem acc_later (c : Dev nD) (b : Fin 8) (q : ℕ) (h0 : 0 < q) (hq : q < 4) (n : Fin 4096) :
    accAt m c (4 * b.val + q) (ix2 0 n)
      = accAt m c (4 * b.val + (q - 1)) (ix2 0 n) + ∑ k : Fin 512, term m c b n ⟨512 * q + k.val, by omega⟩ := by
  have hv : (pt (4 * b.val + q)).val = 4 * b.val + q := Nat.mod_eq_of_lt (by omega)
  have e := accAt_later m c (pt (4 * b.val + q)) (by rw [hv]; omega)
  rw [hv, show 4 * b.val + q - 1 = 4 * b.val + (q - 1) from by omega] at e
  rw [e]
  unfold k0_pay3
  rw [shapeCast_self]
  exact congrArg (fun s => accAt m c (4 * b.val + (q - 1)) (ix2 0 n) + s) (share m c b q hq _ hv n)

/-- After a sample's four channel blocks the row holds the sums over all channels. -/
theorem acc_full (c : Dev nD) (b : Fin 8) (n : Fin 4096) :
    accAt m c (4 * b.val + 3) (ix2 0 n) = ∑ k : Fin 2048, term m c b n k := by
  rw [acc_later m c b 3 (by omega) (by omega) n, acc_later m c b 2 (by omega) (by omega) n,
    acc_later m c b 1 (by omega) (by omega) n, show 4 * b.val + (1 - 1) = 4 * b.val from by omega, acc_first, sum_blocks]
  refine congrArg₂ (· + ·) (congrArg₂ (· + ·) (congrArg₂ (· + ·) ?_ ?_) ?_) ?_ <;>
    exact Finset.sum_congr rfl fun k _ => congrArg (term m c b n) (Fin.ext (by simp))

/-- With the bias these are the tiles' scores. -/
theorem scores_eq (c : Dev nD) (b : Fin 8) (n : Fin 4096) :
    k0_pay6 (accAt m c (4 * b.val + 3)) (iblk m c 3 (pt (4 * b.val + 3))) (ix2 0 n)
      = Cert.Spec.score (fun k n => image m c (ix3 b k n)) (fun k => chan m c (ix1 k)) (chanBias m c (ix1 0)) n := by
  rw [iblk3_eq, V_main_v1]
  unfold k0_pay6 Cert.Spec.score
  simp only [pointwise]
  rw [acc_full]
  rfl

end Cert.KernelIdeal.Scores

end
-- ==== Proof.Perceptron.lean ====
/-
  The kernel's three layers on enlarged weights: the entries added are zero, so they change no sum, and the first column is
  the three layers of the problem.
-/
module

public import proofs.«01_k».proof.Proof.Gen.KernelIdeal.Skeleton
public import proofs.«01_k».proof.Proof.Padded
public import proofs.«01_k».proof.Proof.Spec

@[expose] public section

set_option maxRecDepth 16384

noncomputable section

namespace Cert.KernelIdeal.Perceptron

open Idealize.ShloMosaic
open Cert.KernelIdeal Cert.KernelIdeal.Gen Cert.KernelIdeal.Padded

/-- A sum whose terms vanish from `n` on. -/
theorem sum_shrink {n N : Nat} (h : n ≤ N) (f : Fin N → EReal) (hf : ∀ k : Fin N, n ≤ k.val → f k = 0) :
    ∑ k : Fin N, f k = ∑ k : Fin n, f ⟨k.val, lt_of_lt_of_le k.isLt h⟩ := by
  obtain ⟨d, rfl⟩ := Nat.exists_eq_add_of_le h
  rw [Fin.sum_univ_add, Finset.sum_eq_zero (f := fun i : Fin d => f (Fin.natAdd n i)), add_zero]
  · rfl
  · intro i _
    exact hf _ (by simp)

/-- The kernel's first layer on the enlarged arrays. -/
def wide1 (e : FVec Ideal S8x128 .f32) (w : FVec Ideal S128x256 .f32) (b : FVec Ideal S1x256 .f32) : FVec Ideal S8x256 .f32 :=
  maximumf (addf (matmul dot_S8x128_S128x256_S8x256_1_0_0_1_n_n none e w (constant S8x256 .f32 0x00000000#32))
    (broadcastTo S8x256 b broadcasts_S1x256_S8x256)) (broadcast S8x256 (Scalar.ofBits .f32 0x00000000#32))

/-- The kernel's second layer on the enlarged arrays. -/
def wide2 (e : FVec Ideal S8x256 .f32) (w : FVec Ideal S256x128 .f32) (b : FVec Ideal S1x128 .f32) : FVec Ideal S8x128 .f32 :=
  maximumf (addf (matmul dot_S8x256_S256x128_S8x128_1_0_0_1_n_n none e w (constant S8x128 .f32 0x00000000#32))
    (broadcastTo S8x128 b broadcasts_S1x128_S8x128)) (broadcast S8x128 (Scalar.ofBits .f32 0x00000000#32))

/-- The kernel's last layer on the enlarged arrays. -/
def wide3 (e : FVec Ideal S8x128 .f32) (w : FVec Ideal S128x128 .f32) (b : FVec Ideal S1x128 .f32) : FVec Ideal S8x128 .f32 :=
  logistic (addf (matmul dot_S8x128_S128x128_S8x128_1_0_0_1_n_n none e w (constant S8x128 .f32 0x00000000#32))
    (broadcastTo S8x128 b broadcasts_S1x128_S8x128))

theorem wide1_apply (e : FVec Ideal S8x128 .f32) (w : FVec Ideal S128x256 .f32) (b : FVec Ideal S1x256 .f32) (B : Fin 8) (i : Fin 256) :
    wide1 e w b (ix2 B i) = max ((∑ k : Fin 128, e (ix2 B k) * w (ix2 k i)) + b (ix2 0 i)) 0 := by
  unfold wide1 dot_S8x128_S128x256_S8x256_1_0_0_1_n_n
  simp only [pointwise]
  simp

theorem wide2_apply (e : FVec Ideal S8x256 .f32) (w : FVec Ideal S256x128 .f32) (b : FVec Ideal S1x128 .f32) (B : Fin 8) (i : Fin 128) :
    wide2 e w b (ix2 B i) = max ((∑ k : Fin 256, e (ix2 B k) * w (ix2 k i)) + b (ix2 0 i)) 0 := by
  unfold wide2 dot_S8x256_S256x128_S8x128_1_0_0_1_n_n
  simp only [pointwise]
  simp

theorem wide3_apply (e : FVec Ideal S8x128 .f32) (w : FVec Ideal S128x128 .f32) (b : FVec Ideal S1x128 .f32) (B : Fin 8) (i : Fin 128) :
    wide3 e w b (ix2 B i) = Ideal.logistic ((∑ k : Fin 128, e (ix2 B k) * w (ix2 k i)) + b (ix2 0 i)) := by
  unfold wide3 dot_S8x128_S128x128_S8x128_1_0_0_1_n_n
  simp only [pointwise]
  simp

theorem pay5_eq (e : FVec Ideal S8x128 .f32) (w1 : FVec Ideal S128x256 .f32) (b1 : FVec Ideal S1x256 .f32)
    (w2 : FVec Ideal S256x128 .f32) (b2 : FVec Ideal S1x128 .f32) (w3 : FVec Ideal S128x128 .f32) (b3 : FVec Ideal S1x128 .f32) :
    k0_pay5 e w1 b1 w2 b2 w3 b3 = wide3 (wide2 (wide1 e w1 b1) w2 b2) w3 b3 := by
  unfold k0_pay5 wide3 wide2 wide1
  simp only [shapeCast_self]

/-- The first column of the kernel's output, where the evidence table is zero past its tenth column. -/
theorem pay5_apply (ev : FVec Ideal S8x128 .f32) (w1 : FVec Ideal S200x10 .f32) (b1 : FVec Ideal S200 .f32)
    (w2 : FVec Ideal S100x200 .f32) (b2 : FVec Ideal S100 .f32) (w3 : FVec Ideal S1x100 .f32) (b3 : FVec Ideal S1 .f32)
    (B : Fin 8) (hz : ∀ k : Fin 128, 10 ≤ k.val → ev (ix2 B k) = 0) :
    k0_pay5 ev (padW1 w1) (padB1 b1) (padW2 w2) (padB2 b2) (padW3 w3) (padB3 b3) (ix2 B 0)
      = Cert.Spec.output (Cert.Spec.layers w1 b1 w2 b2 w3 b3) (Cert.Spec.hidden2 (Cert.Spec.layers w1 b1 w2 b2 w3 b3)
          (Cert.Spec.hidden1 (Cert.Spec.layers w1 b1 w2 b2 w3 b3) fun f => ev (ix2 B ⟨f.val, by omega⟩))) := by
  have h1 : ∀ i : Fin 200, wide1 ev (padW1 w1) (padB1 b1) (ix2 B ⟨i.val, by omega⟩)
      = Cert.Spec.hidden1 (Cert.Spec.layers w1 b1 w2 b2 w3 b3) (fun f => ev (ix2 B ⟨f.val, by omega⟩)) i := by
    intro i
    rw [wide1_apply, sum_shrink (show 10 ≤ 128 by omega) _ (fun k hk => by rw [hz k hk, zero_mul])]
    unfold Cert.Spec.hidden1
    simp only [padW1_apply, padB1_apply, i.isLt, Fin.isLt, and_self, dite_true]
    rfl
  have h2 : ∀ i : Fin 100, wide2 (wide1 ev (padW1 w1) (padB1 b1)) (padW2 w2) (padB2 b2) (ix2 B ⟨i.val, by omega⟩)
      = Cert.Spec.hidden2 (Cert.Spec.layers w1 b1 w2 b2 w3 b3) (Cert.Spec.hidden1 (Cert.Spec.layers w1 b1 w2 b2 w3 b3)
          (fun f => ev (ix2 B ⟨f.val, by omega⟩))) i := by
    intro i
    rw [wide2_apply, sum_shrink (show 200 ≤ 256 by omega) _ (fun k hk => by
      rw [padW2_apply, dif_neg (by omega), mul_zero])]
    unfold Cert.Spec.hidden2
    simp only [padW2_apply, padB2_apply, i.isLt, Fin.isLt, and_self, dite_true, h1]
    rfl
  rw [pay5_eq, wide3_apply, sum_shrink (show 100 ≤ 128 by omega) _ (fun k hk => by
      rw [padW3_apply, dif_neg (by omega), mul_zero])]
  unfold Cert.Spec.output
  simp only [padW3_apply, padB3_apply, Fin.isLt, h2]
  simp [Cert.Spec.layers]

end Cert.KernelIdeal.Perceptron

end
-- ==== Proof.Outcome.lean ====
/-
  The kernel's result as the problem's function: each row of the evidence table is the evidence of its sample, so the result
  for a sample is `Cert.Spec.predict` of that sample.
-/
module

public import proofs.«01_k».proof.Proof.Result
public import proofs.«01_k».proof.Proof.Extract
public import proofs.«01_k».proof.Proof.Scores
public import proofs.«01_k».proof.Proof.Perceptron

@[expose] public section

set_option maxRecDepth 16384

noncomputable section

namespace Cert.KernelIdeal.Outcome

open Idealize.ShloMosaic Idealize.ShloMosaic.TcCoe
open Cert.KernelIdeal Cert.KernelIdeal.Gen Cert.KernelIdeal.Body Cert.KernelIdeal.Blocks Cert.KernelIdeal.Extract
open Cert.KernelIdeal.Scores Cert.KernelIdeal.Padded

variable (m : (ℓ : Loc nD τ sig) → Buf (Elt Ideal) ℓ)

/-- The scores of a sample. -/
abbrev sampleScore (c : Dev nD) (b : Fin 8) : Fin 4096 → EReal :=
  Cert.Spec.score (fun k n => image m c (ix3 b k n)) (fun k => chan m c (ix1 k)) (chanBias m c (ix1 0))

/-- The evidence table read at an entry. -/
theorem evAll_apply (c : Dev nD) (b : Fin 8) (f : Fin 128) : evAll m c (ix2 b f) = evRowAt m c b.val (ix2 0 f) := by
  show evRowAt m c b.val (ValueIdx.ix2 0 f) = _
  refine congrArg (evRowAt m c b.val) (funext fun a => ?_)
  match a with
  | ⟨0, _⟩ => rfl
  | ⟨1, _⟩ => rfl

/-- The first ten columns of a row are the sample's evidence. -/
theorem evAll_evidence (c : Dev nD) (b : Fin 8) (f : Fin 10) :
    evAll m c (ix2 b ⟨f.val, by omega⟩) = Cert.Spec.evidence (sampleScore m c b) f := by
  rw [evAll_apply]
  unfold evRowAt
  rw [evRow_apply]
  have hx := scores_eq m c b
  generalize k0_pay6 (accAt m c (4 * b.val + 3)) (iblk m c 3 (pt (4 * b.val + 3))) = x at hx ⊢
  unfold Cert.Spec.evidence
  by_cases h : f.val < 5
  · rw [if_pos h, dif_pos h]
    refine (topMax_iter x (Cert.Spec.ranked (sampleScore m c b)) (Cert.Spec.ranked_injective _) (fun i j hij => ?_)
      ⟨f.val, by omega⟩).trans (hx _)
    rw [show at' x _ = _ from hx _, show at' x _ = _ from hx _]
    exact Cert.Spec.ranked_antitone _ i j hij
  · rw [if_neg h, if_pos f.isLt, dif_neg h]
    refine (botMin_iter x (Cert.Spec.ranked (fun n => -sampleScore m c b n)) (Cert.Spec.ranked_injective _) (fun i j hij => ?_)
      ⟨f.val - 5, by omega⟩).trans (hx _)
    rw [show at' x _ = _ from hx _, show at' x _ = _ from hx _]
    exact Cert.Spec.ranked_antitone (fun n => -sampleScore m c b n) i j hij

/-- The other columns are zero. -/
theorem evAll_zero (c : Dev nD) (b : Fin 8) (f : Fin 128) (h : 10 ≤ f.val) : evAll m c (ix2 b f) = 0 := by
  rw [evAll_apply]
  unfold evRowAt
  rw [evRow_apply, if_neg (by omega), if_neg (by omega)]

/-- The closing operations take the first column. -/
theorem first_column (x : Vec Ideal S8x128 .f32) (b : Fin 8) :
    shapeCast S8 (extractStridedSlice S8x1 ![0, 0] x slices_S8x128_S8x1_0_0) shapeCasts_S8x1_S8 (ix1 b) = x (ix2 b 0) := by
  simp only [pointwise]
  exact congrArg (fun r : Fin 8 => x (ix2 r 0)) (Fin.ext (Nat.zero_add b.val))

/-- The kernel's result for a sample. -/
theorem kernelResult_apply (c : Dev nD) (b : Fin 8) :
    kernelResult m c (ix1 b) = Cert.Spec.predict
      (Cert.Spec.layers (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8)))
      (fun k n => image m c (ix3 b k n)) (fun k => chan m c (ix1 k)) (chanBias m c (ix1 0)) := by
  unfold kernelResult
  rw [first_column]
  unfold outAt
  rw [iblk4_eq, iblk5_eq, iblk6_eq, iblk7_eq, iblk8_eq, iblk9_eq, V_main_v7, V_main_v12, V_main_v18, V_main_v23,
    V_main_v29, V_main_v34, Perceptron.pay5_apply _ _ _ _ _ _ _ b (evAll_zero m c b)]
  unfold Cert.Spec.predict
  rw [show (fun f : Fin 10 => evAll m c (ix2 b ⟨f.val, by omega⟩)) = Cert.Spec.evidence (sampleScore m c b) from
    funext (evAll_evidence m c b)]

end Cert.KernelIdeal.Outcome

end
-- ==== Proof.RefValue.lean ====
/-
  The reference read at an index, step by step: its result for a sample is `Cert.Spec.predict` of that sample.
-/
module

public import proofs.«01_k».proof.Proof.Gen.ReferenceIdeal
public import proofs.«01_k».proof.Proof.Spec
public import Idealize.ShloMosaic.Lib.StackMember

@[expose] public section

set_option maxRecDepth 16384

noncomputable section

namespace Cert.ReferenceIdeal.Reads

open Idealize.ShloMosaic
open Cert.ReferenceIdeal Cert.ReferenceIdeal.Gen

/-- All scores. -/
def scores (x : FVec Ideal S8x2048x4096 .f32) (w : FVec Ideal S2048 .f32) (b : FVec Ideal S1 .f32) : FVec Ideal S8x4096 .f32 :=
  addf (Host.dotGeneral dot_S8x2048x4096_S2048_S8x4096_1_0_02_n_n_n none x w)
    (broadcastInDim S8x4096 ![0, 1] bcast_S1x1_S8x4096_0_1 (broadcastInDim S1x1 ![1] bcast_S1_S1x1_1 b))

/-- The five greatest of each row, greatest first. -/
def top5 (x : FVec Ideal S8x4096 .f32) : FVec Ideal S8x5 .f32 :=
  (Host.topK S8x5 1 (FloatOps.cmpfTotal .gt) x sliceFits_S8x4096_S8x5).1

/-- The evidence of every sample. -/
def features (x : FVec Ideal S8x4096 .f32) : FVec Ideal S8x10 .f32 :=
  concatenate S8x10 1 [⟨S8x5, top5 x⟩, ⟨S8x5, Host.negf (top5 (Host.negf x))⟩] concatenates_S8x5_S8x5_S8x10_d1

/-- The first layer. -/
def layer1 (e : FVec Ideal S8x10 .f32) (w : FVec Ideal S200x10 .f32) (b : FVec Ideal S200 .f32) : FVec Ideal S8x200 .f32 :=
  maximumf (addf (Host.dotGeneral dot_S8x10_S10x200_S8x200_1_0_0_1_n_n none e (transpose S10x200 [1, 0] w transposes_S200x10_S10x200_1_0))
    (broadcastInDim S8x200 ![0, 1] bcast_S1x200_S8x200_0_1 (broadcastInDim S1x200 ![1] bcast_S200_S1x200_1 b)))
    (broadcastInDim S8x200 ![] bcast_S_S8x200 (constant S_ .f32 0x00000000#32))

/-- The second layer. -/
def layer2 (e : FVec Ideal S8x200 .f32) (w : FVec Ideal S100x200 .f32) (b : FVec Ideal S100 .f32) : FVec Ideal S8x100 .f32 :=
  maximumf (addf (Host.dotGeneral dot_S8x200_S200x100_S8x100_1_0_0_1_n_n none e (transpose S200x100 [1, 0] w transposes_S100x200_S200x100_1_0))
    (broadcastInDim S8x100 ![0, 1] bcast_S1x100_S8x100_0_1 (broadcastInDim S1x100 ![1] bcast_S100_S1x100_1 b)))
    (broadcastInDim S8x100 ![] bcast_S_S8x100 (constant S_ .f32 0x00000000#32))

/-- The last layer. -/
def layer3 (e : FVec Ideal S8x100 .f32) (w : FVec Ideal S1x100 .f32) (b : FVec Ideal S1 .f32) : FVec Ideal S8x1 .f32 :=
  Host.divf (broadcastInDim S8x1 ![] bcast_S_S8x1 (constant S_ .f32 0x3F800000#32))
    (addf (broadcastInDim S8x1 ![] bcast_S_S8x1 (constant S_ .f32 0x3F800000#32)) (Host.exp (Host.negf
      (addf (Host.dotGeneral dot_S8x100_S100x1_S8x1_1_0_0_1_n_n none e (transpose S100x1 [1, 0] w transposes_S1x100_S100x1_1_0))
        (broadcastInDim S8x1 ![0, 1] bcast_S1x1_S8x1_0_1 (broadcastInDim S1x1 ![1] bcast_S1_S1x1_1 b))))))

theorem scores_apply (x : FVec Ideal S8x2048x4096 .f32) (w : FVec Ideal S2048 .f32) (b : FVec Ideal S1 .f32)
    (B : Fin 8) (n : Fin 4096) :
    scores x w b (ix2 B n) = Cert.Spec.score (fun k n => x (ix3 B k n)) (fun k => w (ix1 k)) (b (ix1 0)) n := by
  unfold scores Cert.Spec.score dot_S8x2048x4096_S2048_S8x4096_1_0_02_n_n_n
  simp only [pointwise]
  simp only [dite_true, zero_add]
  try rfl

theorem along_row (B : Fin 8) (k c : Fin 4096) : Shape.Idx.along (s := S8x4096) (ix2 B k) 1 c = ix2 B c := by
  funext a
  match a with
  | ⟨0, _⟩ => rfl
  | ⟨1, _⟩ => rfl

theorem sorted_apply (x : FVec Ideal S8x4096 .f32) (y : IVec S8x4096 32) (B : Fin 8) (c : Fin 4096) :
    (Host.sort2 S8x4096 1 (fun l r => FloatOps.cmpfTotal (F := Ideal) (φ := .f32) .gt l.1 r.1) x y).1 (ix2 B c)
      = x (ix2 B (Cert.Spec.ranked (fun n => x (ix2 B n)) c)) := by
  unfold Host.sort2
  rw [dif_pos (by decide)]
  show x (Shape.Idx.along (s := S8x4096) (ix2 B c) 1 (sortedFrom (fun k k' => FloatOps.cmpfTotal (F := Ideal) (φ := .f32) .gt
    (x (Shape.Idx.along (s := S8x4096) (ix2 B c) 1 k)) (x (Shape.Idx.along (s := S8x4096) (ix2 B c) 1 k')) == 1#1) c)) = _
  refine congrArg x ((along_row B c _).trans (congrArg (ix2 B) (congrArg (fun R => sortedFrom R c) ?_)))
  funext k k'
  exact congrArg₂ (fun u v => FloatOps.cmpfTotal (F := Ideal) (φ := .f32) .gt u v == 1#1)
    (congrArg x (along_row B c k)) (congrArg x (along_row B c k'))

theorem top5_apply (x : FVec Ideal S8x4096 .f32) (B : Fin 8) (k : Fin 5) :
    top5 x (ix2 B k) = x (ix2 B (Cert.Spec.ranked (fun n => x (ix2 B n)) ⟨k.val, lt_trans k.isLt (by decide)⟩)) := by
  have h : ∀ (j : S8x4096.Idx), j = ix2 B ⟨k.val, lt_trans k.isLt (by decide)⟩ → ∀ y : IVec S8x4096 32, (Host.sort2 S8x4096 1 (fun l r => FloatOps.cmpfTotal (F := Ideal) (φ := .f32) .gt l.1 r.1) x y).1 j
      = x (ix2 B (Cert.Spec.ranked (fun n => x (ix2 B n)) ⟨k.val, lt_trans k.isLt (by decide)⟩)) := by
    intro j hj y
    rw [hj]
    exact sorted_apply x y B _
  unfold top5 Host.topK extractStridedSlice
  dsimp only
  refine h _ ?_ _
  funext a
  apply Fin.ext
  match a with
  | ⟨0, _⟩ => exact Nat.zero_add _
  | ⟨1, _⟩ => exact Nat.zero_add _

theorem features_apply (x : FVec Ideal S8x4096 .f32) (B : Fin 8) (f : Fin 10) :
    features x (ix2 B f) = Cert.Spec.evidence (fun n => x (ix2 B n)) f := by
  unfold features Cert.Spec.evidence
  simp only [pointwise]
  by_cases h : f.val < 5
  · rw [dif_pos h]
    simp only [h, dite_true, top5_apply]
  · rw [dif_neg h]
    simp only [h, dite_false, top5_apply]
    simp [pointwise]

theorem layer1_apply (L : Cert.Spec.Layers) (e : FVec Ideal S8x10 .f32) (w : FVec Ideal S200x10 .f32) (b : FVec Ideal S200 .f32)
    (hw : ∀ i k, w (ix2 i k) = L.w1 i k) (hb : ∀ i, b (ix1 i) = L.b1 i) (B : Fin 8) (i : Fin 200) :
    layer1 e w b (ix2 B i) = Cert.Spec.hidden1 L (fun k => e (ix2 B k)) i := by
  unfold layer1 Cert.Spec.hidden1 dot_S8x10_S10x200_S8x200_1_0_0_1_n_n
  simp only [pointwise]
  simp [hw, hb]

theorem layer2_apply (L : Cert.Spec.Layers) (e : FVec Ideal S8x200 .f32) (w : FVec Ideal S100x200 .f32) (b : FVec Ideal S100 .f32)
    (hw : ∀ i k, w (ix2 i k) = L.w2 i k) (hb : ∀ i, b (ix1 i) = L.b2 i) (B : Fin 8) (i : Fin 100) :
    layer2 e w b (ix2 B i) = Cert.Spec.hidden2 L (fun k => e (ix2 B k)) i := by
  unfold layer2 Cert.Spec.hidden2 dot_S8x200_S200x100_S8x100_1_0_0_1_n_n
  simp only [pointwise]
  simp [hw, hb]

theorem layer3_apply (L : Cert.Spec.Layers) (e : FVec Ideal S8x100 .f32) (w : FVec Ideal S1x100 .f32) (b : FVec Ideal S1 .f32)
    (hw : ∀ k, w (ix2 0 k) = L.w3 k) (hb : b (ix1 0) = L.b3) (B : Fin 8) :
    layer3 e w b (ix2 B 0) = Cert.Spec.output L (fun k => e (ix2 B k)) := by
  unfold layer3 Cert.Spec.output Ideal.logistic dot_S8x100_S100x1_S8x1_1_0_0_1_n_n
  simp only [pointwise]
  simp [hw, hb]

/-- The reference's result from its arguments. -/
def result (x : FVec Ideal S8x2048x4096 .f32) (w : FVec Ideal S2048 .f32) (b : FVec Ideal S1 .f32)
    (w1 : FVec Ideal S200x10 .f32) (b1 : FVec Ideal S200 .f32) (w2 : FVec Ideal S100x200 .f32) (b2 : FVec Ideal S100 .f32)
    (w3 : FVec Ideal S1x100 .f32) (b3 : FVec Ideal S1 .f32) : FVec Ideal S8 .f32 :=
  shapeCast S8 (layer3 (layer2 (layer1 (features (scores x w b)) w1 b1) w2 b2) w3 b3) shapeCasts_S8x1_S8

theorem result_apply (x : FVec Ideal S8x2048x4096 .f32) (w : FVec Ideal S2048 .f32) (b : FVec Ideal S1 .f32)
    (w1 : FVec Ideal S200x10 .f32) (b1 : FVec Ideal S200 .f32) (w2 : FVec Ideal S100x200 .f32) (b2 : FVec Ideal S100 .f32)
    (w3 : FVec Ideal S1x100 .f32) (b3 : FVec Ideal S1 .f32) (B : Fin 8) :
    result x w b w1 b1 w2 b2 w3 b3 (ix1 B) = Cert.Spec.predict (Cert.Spec.layers w1 b1 w2 b2 w3 b3)
      (fun k n => x (ix3 B k n)) (fun k => w (ix1 k)) (b (ix1 0)) := by
  unfold result Cert.Spec.predict
  simp only [pointwise]
  rw [layer3_apply (Cert.Spec.layers w1 b1 w2 b2 w3 b3) _ _ _ (fun _ => rfl) rfl]
  simp only [layer2_apply (Cert.Spec.layers w1 b1 w2 b2 w3 b3) _ _ _ (fun _ _ => rfl) (fun _ => rfl),
    layer1_apply (Cert.Spec.layers w1 b1 w2 b2 w3 b3) _ _ _ (fun _ _ => rfl) (fun _ => rfl), features_apply, scores_apply]

end Cert.ReferenceIdeal.Reads

end
-- ==== Proof.Same.lean ====
/-
  The kernel as it is, on words, and the kernel read over the extended reals are one program, since the idealization
  rewrites nothing.  So the frame of the one, shown for every reading of the float operations, is the frame of the other.
-/
module

public import proofs.«01_k».proof.Defs
public import proofs.«01_k».proof.Proof.Gen.Kernel
public import proofs.«01_k».proof.Proof.Result
public import Idealize.ShloMosaic.Adequacy
public import Idealize.ShloMosaic.Init

@[expose] public section

set_option maxRecDepth 65536
set_option maxHeartbeats 2000000

noncomputable section

namespace Cert.Same

open Idealize.ShloMosaic Idealize.SL.Sem

variable {F : FTy → Type} [FloatOps F]

/-- The two body tables run one kernel body. -/
theorem defs₀_eq : Cert.Kernel.defs₀ (F := F) = Cert.KernelIdeal.defs₀ (F := F) := by
  refine congrArg Defs.onTc ?_
  funext l a
  match l, a with
  | 0, (t, s) =>
    dsimp only
    rfl
  | ⟨n + 1, h⟩, _ => exact absurd h (Nat.not_lt.2 (Nat.le_add_left _ _))

/-- The pipelines over them are one. -/
theorem defs_eq : Cert.Kernel.defs (F := F) = Cert.KernelIdeal.defs (F := F) :=
  congrArg (Pipeline.defs (Cert.Kernel.pcfgs (F := F))) defs₀_eq

/-- The two host programs are one. -/
theorem main_eq : Cert.Kernel.main (F := F) = Cert.KernelIdeal.main (F := F) := rfl

/-- A run of the kernel, floats being of any kind: the arguments unchanged, every semaphore counter at zero. -/
theorem run_frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0) := by
  rw [defs_eq, main_eq]
  exact (θ_run _ _ _).mono (fun _ h => h.2) (Cert.KernelIdeal.Body.run_value m g)

end Cert.Same

end
-- ==== Proof.Agree.lean ====
/-
  The two programs agree: from the same arguments the kernel and the reference both end with `Cert.Spec.predict` of each
  sample.  And each claim of this certificate in the form in which it is stated.
-/
module

public import proofs.«01_k».proof.Defs
public import proofs.«01_k».proof.Proof.Outcome
public import proofs.«01_k».proof.Proof.RefValue
public import proofs.«01_k».proof.Proof.Same
public import proofs.«01_k».proof.Proof.Gen.ReferenceIdeal.Run
public import Idealize.ShloMosaic.Adequacy
public import Idealize.ShloMosaic.Init

@[expose] public section

set_option maxRecDepth 16384

noncomputable section

namespace Cert.Agree

open Idealize.ShloMosaic Idealize.SL.Sem

theorem quiescent_kernel : Cert.quiescent_Kernel (hKernel := Cert.Kernel.Gen.facts) := fun m g _ =>
  Cert.Same.run_frame m g

theorem quiescent_ideal : Cert.quiescent_KernelIdeal (hKernelIdeal := Cert.KernelIdeal.Gen.facts) := fun m g _ =>
  (θ_run _ _ _).mono (fun _ h => h.2) (Cert.KernelIdeal.Body.run_value m g)

theorem quiescent_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The two results are one vector. -/
theorem results_eq (m : (ℓ : Loc Cert.KernelIdeal.nD Cert.KernelIdeal.τ Cert.KernelIdeal.sig) → Buf (Elt Ideal) ℓ)
    (c : Dev Cert.KernelIdeal.nD) :
    Cert.ReferenceIdeal.Reads.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Body.kernelResult m c := by
  funext i
  obtain ⟨b, rfl⟩ : ∃ b : Fin 8, i = ix1 b := ⟨i 0, by funext a; match a with | ⟨0, _⟩ => rfl⟩
  rw [Cert.KernelIdeal.Outcome.kernelResult_apply]
  exact Cert.ReferenceIdeal.Reads.result_apply _ _ _ _ _ _ _ _ _ b

theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Body.kernelResult m c,
    (θ_run _ _ _).mono (fun _ h c => ⟨h.1 c, h.2.1 c⟩) (Cert.KernelIdeal.Body.run_value m g),
    (θ_run _ _ _).mono (fun r h c => ⟨(h c).1.trans (by
      obtain ⟨h0, h1, h2, h3, h4, h5, h6, h7, h8⟩ := hag c
      rw [h0, h1, h2, h3, h4, h5, h6, h7, h8]
      exact results_eq m c), (h c).2⟩) (Cert.ReferenceIdeal.Value.run (F := Ideal) m' g')⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Agree.quiescent_kernel, Cert.Agree.quiescent_ideal, Cert.Agree.quiescent_reference, trivial, Cert.Agree.algebraic⟩

end Cert.Proof

end
